-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Locations [hPre_in_range : Cert.Pre_in_range.Facts] (m : (ℓ : Loc Cert.Locations.nD Cert.Locations.τ Cert.Locations.sig) → Buf (Elt Bits) ℓ) : Prop :=
  ∀ c : Dev Cert.Locations.nD,
    (Cert.Pre_in_range.fn (F := Bits) (m ((c.tc : Thread Cert.Locations.nD Cert.Locations.τ).loc Cert.Locations.main_arg0)) (m ((c.tc : Thread Cert.Locations.nD Cert.Locations.τ).loc Cert.Locations.main_arg1))) = (fun _ => 1#1)

def Pre_LocationsReference [hPre_in_range : Cert.Pre_in_range.Facts] (m : (ℓ : Loc Cert.LocationsReference.nD Cert.LocationsReference.τ Cert.LocationsReference.sig) → Buf (Elt Bits) ℓ) : Prop :=
  ∀ c : Dev Cert.LocationsReference.nD,
    (Cert.Pre_in_range.fn (F := Bits) (m ((c.tc : Thread Cert.LocationsReference.nD Cert.LocationsReference.τ).loc Cert.LocationsReference.main_arg0)) (m ((c.tc : Thread Cert.LocationsReference.nD Cert.LocationsReference.τ).loc Cert.LocationsReference.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Locations [hLocations : Cert.Locations.Facts] [hPre_in_range : Cert.Pre_in_range.Facts] : Prop :=
  ∀ (m : (ℓ : Loc Cert.Locations.nD Cert.Locations.τ Cert.Locations.sig) → Buf (Elt Bits) ℓ) (g : Dev Cert.Locations.nD → PrngReg), Pre_Locations m →
    θ_run (Cert.Locations.defs (F := Bits)) (Cert.Locations.threads (F := Bits)) ⟨m, fun _ => 0, g⟩ (fun r => (∀ c : Dev Cert.Locations.nD,
      r.2.mem ((c.tc : Thread Cert.Locations.nD Cert.Locations.τ).loc Cert.Locations.main_arg0) = m ((c.tc : Thread Cert.Locations.nD Cert.Locations.τ).loc Cert.Locations.main_arg0)
      ∧ r.2.mem ((c.tc : Thread Cert.Locations.nD Cert.Locations.τ).loc Cert.Locations.main_arg1) = m ((c.tc : Thread Cert.Locations.nD Cert.Locations.τ).loc Cert.Locations.main_arg1))
      ∧ r.2.sem = fun _ => 0)

def quiescent_LocationsReference [hLocationsReference : Cert.LocationsReference.Facts] [hPre_in_range : Cert.Pre_in_range.Facts] : Prop :=
  ∀ (m : (ℓ : Loc Cert.LocationsReference.nD Cert.LocationsReference.τ Cert.LocationsReference.sig) → Buf (Elt Bits) ℓ) (g : Dev Cert.LocationsReference.nD → PrngReg), Pre_LocationsReference m →
    θ_run (Cert.LocationsReference.defs (F := Bits)) (onTc (τ := Cert.LocationsReference.τ) (Cert.LocationsReference.main (F := Bits))) ⟨m, fun _ => 0, g⟩ (fun r => (∀ c : Dev Cert.LocationsReference.nD,
      r.2.mem ((c.tc : Thread Cert.LocationsReference.nD Cert.LocationsReference.τ).loc Cert.LocationsReference.main_arg0) = m ((c.tc : Thread Cert.LocationsReference.nD Cert.LocationsReference.τ).loc Cert.LocationsReference.main_arg0)
      ∧ r.2.mem ((c.tc : Thread Cert.LocationsReference.nD Cert.LocationsReference.τ).loc Cert.LocationsReference.main_arg1) = m ((c.tc : Thread Cert.LocationsReference.nD Cert.LocationsReference.τ).loc Cert.LocationsReference.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_c)) (v2 : (c : Dev Cert.KernelIdeal.nD) → Buf (Elt Ideal) ((c.tc : Thread Cert.KernelIdeal.nD Cert.KernelIdeal.τ).loc Cert.KernelIdeal.main_c_0)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_c_0) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_c_8) = v1 c
          ∧ r.2.mem ((c.tc : Thread Cert.ReferenceIdeal.nD Cert.ReferenceIdeal.τ).loc Cert.ReferenceIdeal.main_c_9) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_v17) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Locations_LocationsReference [hLocations : Cert.Locations.Facts] [hLocationsReference : Cert.LocationsReference.Facts] [hPre_in_range : Cert.Pre_in_range.Facts] : Prop :=
  ∀ (m : (ℓ : Loc Cert.Locations.nD Cert.Locations.τ Cert.Locations.sig) → Buf (Elt Bits) ℓ) (g : Dev Cert.Locations.nD → PrngReg)
    (m' : (ℓ : Loc Cert.LocationsReference.nD Cert.LocationsReference.τ Cert.LocationsReference.sig) → Buf (Elt Bits) ℓ) (g' : Dev Cert.LocationsReference.nD → PrngReg), Pre_Locations m →
    (∀ c : Dev Cert.Locations.nD,
      m' ((c.tc : Thread Cert.LocationsReference.nD Cert.LocationsReference.τ).loc Cert.LocationsReference.main_arg0) = m ((c.tc : Thread Cert.Locations.nD Cert.Locations.τ).loc Cert.Locations.main_arg0)
      ∧ m' ((c.tc : Thread Cert.LocationsReference.nD Cert.LocationsReference.τ).loc Cert.LocationsReference.main_arg1) = m ((c.tc : Thread Cert.Locations.nD Cert.Locations.τ).loc Cert.Locations.main_arg1)) →
    ∃ (v0 : (c : Dev Cert.Locations.nD) → Buf (Elt Bits) ((c.tc : Thread Cert.Locations.nD Cert.Locations.τ).loc Cert.Locations.main_v2)),
      θ_run (Cert.Locations.defs (F := Bits)) (Cert.Locations.threads (F := Bits)) ⟨m, fun _ => 0, g⟩ (fun r => ∀ c : Dev Cert.Locations.nD,
          r.2.mem ((c.tc : Thread Cert.Locations.nD Cert.Locations.τ).loc Cert.Locations.main_v2) = v0 c
          ∧ r.2.mem ((c.tc : Thread Cert.Locations.nD Cert.Locations.τ).loc Cert.Locations.main_arg0) = m ((c.tc : Thread Cert.Locations.nD Cert.Locations.τ).loc Cert.Locations.main_arg0)
          ∧ r.2.mem ((c.tc : Thread Cert.Locations.nD Cert.Locations.τ).loc Cert.Locations.main_arg1) = m ((c.tc : Thread Cert.Locations.nD Cert.Locations.τ).loc Cert.Locations.main_arg1))
      ∧ θ_run (Cert.LocationsReference.defs (F := Bits)) (onTc (τ := Cert.LocationsReference.τ) (Cert.LocationsReference.main (F := Bits))) ⟨m', fun _ => 0, g'⟩ (fun r => ∀ c : Dev Cert.LocationsReference.nD,
          r.2.mem ((c.tc : Thread Cert.LocationsReference.nD Cert.LocationsReference.τ).loc Cert.LocationsReference.main_v11) = v0 c
          ∧ r.2.mem ((c.tc : Thread Cert.LocationsReference.nD Cert.LocationsReference.τ).loc Cert.LocationsReference.main_arg0) = m' ((c.tc : Thread Cert.LocationsReference.nD Cert.LocationsReference.τ).loc Cert.LocationsReference.main_arg0)
          ∧ r.2.mem ((c.tc : Thread Cert.LocationsReference.nD Cert.LocationsReference.τ).loc Cert.LocationsReference.main_arg1) = m' ((c.tc : Thread Cert.LocationsReference.nD Cert.LocationsReference.τ).loc Cert.LocationsReference.main_arg1))

def Claim : Prop :=
  ∃ (hKernelIdeal : Cert.KernelIdeal.Facts) (hReferenceIdeal : Cert.ReferenceIdeal.Facts) (hLocations : Cert.Locations.Facts) (hLocationsReference : Cert.LocationsReference.Facts) (hPre_finite : Cert.Pre_finite.Facts) (hPre_in_range : Cert.Pre_in_range.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Locations (hLocations := hLocations) (hPre_in_range := hPre_in_range)
    ∧ quiescent_LocationsReference (hLocationsReference := hLocationsReference) (hPre_in_range := hPre_in_range)
    ∧ algebraic_KernelIdeal_ReferenceIdeal_pre_finite (hKernelIdeal := hKernelIdeal) (hReferenceIdeal := hReferenceIdeal) (hPre_finite := hPre_finite)
    ∧ bitexact_Locations_LocationsReference (hLocations := hLocations) (hLocationsReference := hLocationsReference) (hPre_in_range := hPre_in_range)
-- ==== Pre_finite.lean ====
abbrev S8192x4096 : Shape := ⟨2, ![8192, 4096]⟩
abbrev S64x4096 : Shape := ⟨2, ![64, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S8192x4096 .f32) (main_arg1 : FVec F S64x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Pre_in_range.lean ====
abbrev S8192x1 : Shape := ⟨2, ![8192, 1]⟩
abbrev S8x4x64 : Shape := ⟨3, ![8, 4, 64]⟩
abbrev S_ : Shape := ⟨0, ![]⟩

class Facts : Prop where
  bcast_S_S8192x1 : S_.BroadcastsInDim S8192x1 (![] : Fin 0 → Fin S8192x1.rank)

variable [Facts]

def fn {F : FTy → Type} [FloatOps F] (main_arg0 : IVec S8192x1 32) (main_arg1 : IVec S8x4x64 32) : IVec S8192x1 1 :=
  let main_c : IVec S_ 32 := constantI S_ 32 0#32
  let main_v0 : IVec S8192x1 32 := broadcastInDim S8192x1 ![] bcast_S_S8192x1 main_c
  let main_v1 : IVec S8192x1 1 := cmpi .sge main_arg0 main_v0
  let main_c_0 : IVec S_ 32 := constantI S_ 32 64#32
  let main_v2 : IVec S8192x1 32 := broadcastInDim S8192x1 ![] bcast_S_S8192x1 main_c_0
  let main_v3 : IVec S8192x1 1 := cmpi .slt main_arg0 main_v2
  let main_v4 : IVec S8192x1 1 := andi main_v1 main_v3
  main_v4
-- ==== KernelIdeal.lean ====
abbrev S8192x4096 : Shape := ⟨2, ![8192, 4096]⟩
abbrev S64x4096 : Shape := ⟨2, ![64, 4096]⟩
abbrev S8192x1 : Shape := ⟨2, ![8192, 1]⟩
abbrev S8x4x64 : Shape := ⟨3, ![8, 4, 64]⟩
abbrev S1x1 : Shape := ⟨2, ![1, 1]⟩
abbrev S1024x4096 : Shape := ⟨2, ![1024, 4096]⟩
abbrev S1024x1 : Shape := ⟨2, ![1024, 1]⟩
abbrev S1x4x64 : Shape := ⟨3, ![1, 4, 64]⟩
abbrev S1x64 : Shape := ⟨2, ![1, 64]⟩
abbrev S1024x64 : Shape := ⟨2, ![1024, 64]⟩
abbrev S1024 : Shape := ⟨1, ![1024]⟩
abbrev S256x64 : Shape := ⟨2, ![256, 64]⟩
abbrev S64 : Shape := ⟨1, ![64]⟩
abbrev S4x64 : Shape := ⟨2, ![4, 64]⟩
abbrev S1x1x64 : Shape := ⟨3, ![1, 1, 64]⟩
abbrev S1 : Shape := ⟨1, ![1]⟩
abbrev S1x1x1 : Shape := ⟨3, ![1, 1, 1]⟩
abbrev S8192 : Shape := ⟨1, ![8192]⟩
abbrev S32x64 : Shape := ⟨2, ![32, 64]⟩
abbrev S256 : Shape := ⟨1, ![256]⟩
abbrev S_ : Shape := ⟨0, ![]⟩
abbrev S16 : Shape := ⟨1, ![16]⟩

abbrev nBuf : Table → Nat
  | .hbm => 14
  | .local .tc .vmem => 12
  | .local .scVector .vmem => 3
  | _ => 0

abbrev bufTy : (tb : Table) → Fin (nBuf tb) → BufTy
  | .hbm, ⟨0, _⟩ => ⟨S8192x4096, .f32⟩
  | .hbm, ⟨1, _⟩ => ⟨S64x4096, .f32⟩
  | .hbm, ⟨2, _⟩ => ⟨S8192x1, .i32⟩
  | .hbm, ⟨3, _⟩ => ⟨S8192x1, .f32⟩
  | .hbm, ⟨4, _⟩ => ⟨S8x4x64, .i32⟩
  | .hbm, ⟨5, _⟩ => ⟨S1x1, .f32⟩
  | .hbm, ⟨6, _⟩ => ⟨S8192, .i32⟩
  | .hbm, ⟨7, _⟩ => ⟨S32x64, .i32⟩
  | .hbm, ⟨8, _⟩ => ⟨S8192, .i32⟩
  | .hbm, ⟨9, _⟩ => ⟨S_, .f32⟩
  | .hbm, ⟨10, _⟩ => ⟨S8192, .i32⟩
  | .hbm, ⟨11, _⟩ => ⟨S8192, .f32⟩
  | .hbm, ⟨12, _⟩ => ⟨S_, .i32⟩
  | .hbm, ⟨13, _⟩ => ⟨S_, .i32⟩
  | .local .tc .vmem, ⟨0, _⟩ => ⟨S1024x4096, .f32⟩
  | .local .tc .vmem, ⟨1, _⟩ => ⟨S1024x4096, .f32⟩
  | .local .tc .vmem, ⟨2, _⟩ => ⟨S64x4096, .f32⟩
  | .local .tc .vmem, ⟨3, _⟩ => ⟨S1024x1, .i32⟩
  | .local .tc .vmem, ⟨4, _⟩ => ⟨S1024x1, .i32⟩
  | .local .tc .vmem, ⟨5, _⟩ => ⟨S1024x1, .f32⟩
  | .local .tc .vmem, ⟨6, _⟩ => ⟨S1024x1, .f32⟩
  | .local .tc .vmem, ⟨7, _⟩ => ⟨S1x4x64, .i32⟩
  | .local .tc .vmem, ⟨8, _⟩ => ⟨S1x4x64, .i32⟩
  | .local .tc .vmem, ⟨9, _⟩ => ⟨S1x1, .f32⟩
  | .local .tc .vmem, ⟨10, _⟩ => ⟨S1x64, .f32⟩
  | .local .tc .vmem, ⟨11, _⟩ => ⟨S1x64, .f32⟩
  | .local .scVector .vmem, ⟨0, _⟩ => ⟨S256, .i32⟩
  | .local .scVector .vmem, ⟨1, _⟩ => ⟨S64, .i32⟩
  | .local .scVector .vmem, ⟨2, _⟩ => ⟨S256, .i32⟩
  | _, _ => ⟨S8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_0 : Ref sig .tc := ⟨.hbm, 13, rfl⟩
abbrev main_v1_scv : Ref sig .scVector := ⟨.hbm, 6, rfl⟩
abbrev main_v2_scv : Ref sig .scVector := ⟨.hbm, 7, rfl⟩
abbrev main_v3_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_28 : BitVec 32 := 0#32
  let v63 : BitVec 1 := Scalar.cmpi .ne v62 c0_i32_28
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  ![v1.toNat, 0]

def k1_chk1 (v15 : IVec S16 32) : Prop :=
  (∀ a x, ((![v15] : Fin 1 → IVec S16 32) a x).toNat < S64.size a) ∧
  (∀ a x, ((![v15] : Fin 1 → IVec S16 32) a x).toNat < S64.size a)
theorem k1_idx1_inb : ∀ (v15 : IVec S16 32) (k1_hw1 : k1_chk1 v15), ∀ a x, ((![v15] : Fin 1 → IVec S16 32) a x).toNat < S64.size a := fun v15 k1_hw1 => k1_hw1.1
theorem k1_idx2_inb : ∀ (v15 : IVec S16 32) (k1_hw1 : k1_chk1 v15), ∀ a x, ((![v15] : Fin 1 → IVec S16 32) a x).toNat < S64.size a := fun v15 k1_hw1 => k1_hw1.2

def k1_chk2 (v23 : IVec S16 32) : Prop :=
  (∀ a x, ((![v23] : Fin 1 → IVec S16 32) a x).toNat < S64.size a) ∧
  (∀ a x, ((![v23] : Fin 1 → IVec S16 32) a x).toNat < S64.size a)
theorem k1_idx3_inb : ∀ (v23 : IVec S16 32) (k1_hw2 : k1_chk2 v23), ∀ a x, ((![v23] : Fin 1 → IVec S16 32) a x).toNat < S64.size a := fun v23 k1_hw2 => k1_hw2.1
theorem k1_idx4_inb : ∀ (v23 : IVec S16 32) (k1_hw2 : k1_chk2 v23), ∀ a x, ((![v23] : Fin 1 → IVec S16 32) a x).toNat < S64.size a := fun v23 k1_hw2 => k1_hw2.2

def k1_chk3 (v31 : IVec S16 32) : Prop :=
  (∀ a x, ((![v31] : Fin 1 → IVec S16 32) a x).toNat < S64.size a) ∧
  (∀ a x, ((![v31] : Fin 1 → IVec S16 32) a x).toNat < S64.size a)
theorem k1_idx5_inb : ∀ (v31 : IVec S16 32) (k1_hw3 : k1_chk3 v31), ∀ a x, ((![v31] : Fin 1 → IVec S16 32) a x).toNat < S64.size a := fun v31 k1_hw3 => k1_hw3.1
theorem k1_idx6_inb : ∀ (v31 : IVec S16 32) (k1_hw3 : k1_chk3 v31), ∀ a x, ((![v31] : Fin 1 → IVec S16 32) a x).toNat < S64.size a := fun v31 k1_hw3 => k1_hw3.2

def k1_chk4 (v39 : IVec S16 32) : Prop :=
  (∀ a x, ((![v39] : Fin 1 → IVec S16 32) a x).toNat < S64.size a) ∧
  (∀ a x, ((![v39] : Fin 1 → IVec S16 32) a x).toNat < S64.size a)
theorem k1_idx7_inb : ∀ (v39 : IVec S16 32) (k1_hw4 : k1_chk4 v39), ∀ a x, ((![v39] : Fin 1 → IVec S16 32) a x).toNat < S64.size a := fun v39 k1_hw4 => k1_hw4.1
theorem k1_idx8_inb : ∀ (v39 : IVec S16 32) (k1_hw4 : k1_chk4 v39), ∀ a x, ((![v39] : Fin 1 → IVec S16 32) a x).toNat < S64.size a := fun v39 k1_hw4 => k1_hw4.2

def k1_chk5 (v47 : IVec S16 32) : Prop :=
  (∀ a x, ((![v47] : Fin 1 → IVec S16 32) a x).toNat < S64.size a) ∧
  (∀ a x, ((![v47] : Fin 1 → IVec S16 32) a x).toNat < S64.size a)
theorem k1_idx9_inb : ∀ (v47 : IVec S16 32) (k1_hw5 : k1_chk5 v47), ∀ a x, ((![v47] : Fin 1 → IVec S16 32) a x).toNat < S64.size a := fun v47 k1_hw5 => k1_hw5.1
theorem k1_idx10_inb : ∀ (v47 : IVec S16 32) (k1_hw5 : k1_chk5 v47), ∀ a x, ((![v47] : Fin 1 → IVec S16 32) a x).toNat < S64.size a := fun v47 k1_hw5 => k1_hw5.2

def k1_chk6 (v55 : IVec S16 32) : Prop :=
  (∀ a x, ((![v55] : Fin 1 → IVec S16 32) a x).toNat < S64.size a) ∧
  (∀ a x, ((![v55] : Fin 1 → IVec S16 32) a x).toNat < S64.size a)
theorem k1_idx11_inb : ∀ (v55 : IVec S16 32) (k1_hw6 : k1_chk6 v55), ∀ a x, ((![v55] : Fin 1 → IVec S16 32) a x).toNat < S64.size a := fun v55 k1_hw6 => k1_hw6.1
theorem k1_idx12_inb : ∀ (v55 : IVec S16 32) (k1_hw6 : k1_chk6 v55), ∀ a x, ((![v55] : Fin 1 → IVec S16 32) a x).toNat < S64.size a := fun v55 k1_hw6 => k1_hw6.2

def k1_chk7 (v63 : IVec S16 32) : Prop :=
  (∀ a x, ((![v63] : Fin 1 → IVec S16 32) a x).toNat < S64.size a) ∧
  (∀ a x, ((![v63] : Fin 1 → IVec S16 32) a x).toNat < S64.size a)
theorem k1_idx13_inb : ∀ (v63 : IVec S16 32) (k1_hw7 : k1_chk7 v63), ∀ a x, ((![v63] : Fin 1 → IVec S16 32) a x).toNat < S64.size a := fun v63 k1_hw7 => k1_hw7.1
theorem k1_idx14_inb : ∀ (v63 : IVec S16 32) (k1_hw7 : k1_chk7 v63), ∀ a x, ((![v63] : Fin 1 → IVec S16 32) a x).toNat < S64.size a := fun v63 k1_hw7 => k1_hw7.2

def k1_chk8 (v71 : IVec S16 32) : Prop :=
  (∀ a x, ((![v71] : Fin 1 → IVec S16 32) a x).toNat < S64.size a) ∧
  (∀ a x, ((![v71] : Fin 1 → IVec S16 32) a x).toNat < S64.size a)
theorem k1_idx15_inb : ∀ (v71 : IVec S16 32) (k1_hw8 : k1_chk8 v71), ∀ a x, ((![v71] : Fin 1 → IVec S16 32) a x).toNat < S64.size a := fun v71 k1_hw8 => k1_hw8.1
theorem k1_idx16_inb : ∀ (v71 : IVec S16 32) (k1_hw8 : k1_chk8 v71), ∀ a x, ((![v71] : Fin 1 → IVec S16 32) a x).toNat < S64.size a := fun v71 k1_hw8 => k1_hw8.2

def k1_chk9 (v79 : IVec S16 32) : Prop :=
  (∀ a x, ((![v79] : Fin 1 → IVec S16 32) a x).toNat < S64.size a) ∧
  (∀ a x, ((![v79] : Fin 1 → IVec S16 32) a x).toNat < S64.size a)
theorem k1_idx17_inb : ∀ (v79 : IVec S16 32) (k1_hw9 : k1_chk9 v79), ∀ a x, ((![v79] : Fin 1 → IVec S16 32) a x).toNat < S64.size a := fun v79 k1_hw9 => k1_hw9.1
theorem k1_idx18_inb : ∀ (v79 : IVec S16 32) (k1_hw9 : k1_chk9 v79), ∀ a x, ((![v79] : Fin 1 → IVec S16 32) a x).toNat < S64.size a := fun v79 k1_hw9 => k1_hw9.2

def k1_chk10 (v87 : IVec S16 32) : Prop :=
  (∀ a x, ((![v87] : Fin 1 → IVec S16 32) a x).toNat < S64.size a) ∧
  (∀ a x, ((![v87] : Fin 1 → IVec S16 32) a x).toNat < S64.size a)
theorem k1_idx19_inb : ∀ (v87 : IVec S16 32) (k1_hw10 : k1_chk10 v87), ∀ a x, ((![v87] : Fin 1 → IVec S16 32) a x).toNat < S64.size a := fun v87 k1_hw10 => k1_hw10.1
theorem k1_idx20_inb : ∀ (v87 : IVec S16 32) (k1_hw10 : k1_chk10 v87), ∀ a x, ((![v87] : Fin 1 → IVec S16 32) a x).toNat < S64.size a := fun v87 k1_hw10 => k1_hw10.2

def k1_chk11 (v95 : IVec S16 32) : Prop :=
  (∀ a x, ((![v95] : Fin 1 → IVec S16 32) a x).toNat < S64.size a) ∧
  (∀ a x, ((![v95] : Fin 1 → IVec S16 32) a x).toNat < S64.size a)
theorem k1_idx21_inb : ∀ (v95 : IVec S16 32) (k1_hw11 : k1_chk11 v95), ∀ a x, ((![v95] : Fin 1 → IVec S16 32) a x).toNat < S64.size a := fun v95 k1_hw11 => k1_hw11.1
theorem k1_idx22_inb : ∀ (v95 : IVec S16 32) (k1_hw11 : k1_chk11 v95), ∀ a x, ((![v95] : Fin 1 → IVec S16 32) a x).toNat < S64.size a := fun v95 k1_hw11 => k1_hw11.2

def k1_chk12 (v103 : IVec S16 32) : Prop :=
  (∀ a x, ((![v103] : Fin 1 → IVec S16 32) a x).toNat < S64.size a) ∧
  (∀ a x, ((![v103] : Fin 1 → IVec S16 32) a x).toNat < S64.size a)
theorem k1_idx23_inb : ∀ (v103 : IVec S16 32) (k1_hw12 : k1_chk12 v103), ∀ a x, ((![v103] : Fin 1 → IVec S16 32) a x).toNat < S64.size a := fun v103 k1_hw12 => k1_hw12.1
theorem k1_idx24_inb : ∀ (v103 : IVec S16 32) (k1_hw12 : k1_chk12 v103), ∀ a x, ((![v103] : Fin 1 → IVec S16 32) a x).toNat < S64.size a := fun v103 k1_hw12 => k1_hw12.2

def k1_chk13 (v111 : IVec S16 32) : Prop :=
  (∀ a x, ((![v111] : Fin 1 → IVec S16 32) a x).toNat < S64.size a) ∧
  (∀ a x, ((![v111] : Fin 1 → IVec S16 32) a x).toNat < S64.size a)
theorem k1_idx25_inb : ∀ (v111 : IVec S16 32) (k1_hw13 : k1_chk13 v111), ∀ a x, ((![v111] : Fin 1 → IVec S16 32) a x).toNat < S64.size a := fun v111 k1_hw13 => k1_hw13.1
theorem k1_idx26_inb : ∀ (v111 : IVec S16 32) (k1_hw13 : k1_chk13 v111), ∀ a x, ((![v111] : Fin 1 → IVec S16 32) a x).toNat < S64.size a := fun v111 k1_hw13 => k1_hw13.2

def k1_chk14 (v119 : IVec S16 32) : Prop :=
  (∀ a x, ((![v119] : Fin 1 → IVec S16 32) a x).toNat < S64.size a) ∧
  (∀ a x, ((![v119] : Fin 1 → IVec S16 32) a x).toNat < S64.size a)
theorem k1_idx27_inb : ∀ (v119 : IVec S16 32) (k1_hw14 : k1_chk14 v119), ∀ a x, ((![v119] : Fin 1 → IVec S16 32) a x).toNat < S64.size a := fun v119 k1_hw14 => k1_hw14.1
theorem k1_idx28_inb : ∀ (v119 : IVec S16 32) (k1_hw14 : k1_chk14 v119), ∀ a x, ((![v119] : Fin 1 → IVec S16 32) a x).toNat < S64.size a := fun v119 k1_hw14 => k1_hw14.2

def k1_chk15 (v127 : IVec S16 32) : Prop :=
  (∀ a x, ((![v127] : Fin 1 → IVec S16 32) a x).toNat < S64.size a) ∧
  (∀ a x, ((![v127] : Fin 1 → IVec S16 32) a x).toNat < S64.size a)
theorem k1_idx29_inb : ∀ (v127 : IVec S16 32) (k1_hw15 : k1_chk15 v127), ∀ a x, ((![v127] : Fin 1 → IVec S16 32) a x).toNat < S64.size a := fun v127 k1_hw15 => k1_hw15.1
theorem k1_idx30_inb : ∀ (v127 : IVec S16 32) (k1_hw15 : k1_chk15 v127), ∀ a x, ((![v127] : Fin 1 → IVec S16 32) a x).toNat < S64.size a := fun v127 k1_hw15 => k1_hw15.2

def k1_chk16 (v135 : IVec S16 32) : Prop :=
  (∀ a x, ((![v135] : Fin 1 → IVec S16 32) a x).toNat < S64.size a) ∧
  (∀ a x, ((![v135] : Fin 1 → IVec S16 32) a x).toNat < S64.size a)
theorem k1_idx31_inb : ∀ (v135 : IVec S16 32) (k1_hw16 : k1_chk16 v135), ∀ a x, ((![v135] : Fin 1 → IVec S16 32) a x).toNat < S64.size a := fun v135 k1_hw16 => k1_hw16.1
theorem k1_idx32_inb : ∀ (v135 : IVec S16 32) (k1_hw16 : k1_chk16 v135), ∀ a x, ((![v135] : Fin 1 → IVec S16 32) a x).toNat < S64.size a := fun v135 k1_hw16 => k1_hw16.2
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S64x4096 : Shape := ⟨2, ![64, 4096]⟩
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S64 : Shape := ⟨1, ![64]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S4096x64, .f32⟩
  | .hbm, ⟨3, _⟩ => ⟨S8192x64, .f32⟩
  | .hbm, ⟨4, _⟩ => ⟨S8192x64, .i32⟩
  | .hbm, ⟨5, _⟩ => ⟨S_, .f32⟩
  | .hbm, ⟨6, _⟩ => ⟨S_, .i32⟩
  | .hbm, ⟨7, _⟩ => ⟨S8192, .f32⟩
  | .hbm, ⟨8, _⟩ => ⟨S8192, .i32⟩
  | .hbm, ⟨9, _⟩ => ⟨S8192x1, .i32⟩
  | .hbm, ⟨10, _⟩ => ⟨S1x64, .i32⟩
  | .hbm, ⟨11, _⟩ => ⟨S8192x64, .i32⟩
  | .hbm, ⟨12, _⟩ => ⟨S8192x64, .i32⟩
  | .hbm, ⟨13, _⟩ => ⟨S8192x64, .i1⟩
  | .hbm, ⟨14, _⟩ => ⟨S8192x64, .i32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S_, .i32⟩
  | .hbm, ⟨34, _⟩ => ⟨S_, .i32⟩
  | .hbm, ⟨35, _⟩ => ⟨S8192x64, .i32⟩
  | .hbm, ⟨36, _⟩ => ⟨S_, .i32⟩
  | .hbm, ⟨37, _⟩ => ⟨S8192x64, .i32⟩
  | .hbm, ⟨38, _⟩ => ⟨S8192x64, .i32⟩
  | .hbm, ⟨39, _⟩ => ⟨S8192x64, .i32⟩
  | .hbm, ⟨40, _⟩ => ⟨S_, .i32⟩
  | .hbm, ⟨41, _⟩ => ⟨S8192, .i32⟩
  | .hbm, ⟨42, _⟩ => ⟨S_, .f32⟩
  | .hbm, ⟨43, _⟩ => ⟨S64, .f32⟩
  | .hbm, ⟨44, _⟩ => ⟨S8192x64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .i32⟩
  | .hbm, ⟨53, _⟩ => ⟨S_, .i32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v2 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_call2_call0_c : Ref sig .tc := ⟨.hbm, 33, rfl⟩
abbrev main_call2_call0_v0 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_c_8 : Ref sig .tc := ⟨.hbm, 52, rfl⟩
abbrev main_c_9 : Ref sig .tc := ⟨.hbm, 53, rfl⟩

abbrev nD : Nat := 1
abbrev τ : Topo := Topo.v7x

variable {F : FTy → Type} [FloatOps F]
-- ==== Locations.lean ====
abbrev S8192x1 : Shape := ⟨2, ![8192, 1]⟩
abbrev S8x4x64 : Shape := ⟨3, ![8, 4, 64]⟩
abbrev S8192 : Shape := ⟨1, ![8192]⟩
abbrev S32x64 : Shape := ⟨2, ![32, 64]⟩
abbrev S256 : Shape := ⟨1, ![256]⟩
abbrev S64 : Shape := ⟨1, ![64]⟩
abbrev S_ : Shape := ⟨0, ![]⟩
abbrev S1x64 : Shape := ⟨2, ![1, 64]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S8192x1, .i32⟩
  | .hbm, ⟨1, _⟩ => ⟨S8x4x64, .i32⟩
  | .hbm, ⟨2, _⟩ => ⟨S8192, .i32⟩
  | .hbm, ⟨3, _⟩ => ⟨S32x64, .i32⟩
  | .hbm, ⟨4, _⟩ => ⟨S8192, .i32⟩
  | .local .scVector .vmem, ⟨0, _⟩ => ⟨S256, .i32⟩
  | .local .scVector .vmem, ⟨1, _⟩ => ⟨S64, .i32⟩
  | .local .scVector .vmem, ⟨2, _⟩ => ⟨S256, .i32⟩
  | _, _ => ⟨S8192x1, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  ![v1.toNat, 0]

def k0_chk1 (v15 : IVec S16 32) : Prop :=
  (∀ a x, ((![v15] : Fin 1 → IVec S16 32) a x).toNat < S64.size a) ∧
  (∀ a x, ((![v15] : Fin 1 → IVec S16 32) a x).toNat < S64.size a)
theorem k0_idx1_inb : ∀ (v15 : IVec S16 32) (k0_hw1 : k0_chk1 v15), ∀ a x, ((![v15] : Fin 1 → IVec S16 32) a x).toNat < S64.size a := fun v15 k0_hw1 => k0_hw1.1
theorem k0_idx2_inb : ∀ (v15 : IVec S16 32) (k0_hw1 : k0_chk1 v15), ∀ a x, ((![v15] : Fin 1 → IVec S16 32) a x).toNat < S64.size a := fun v15 k0_hw1 => k0_hw1.2

def k0_chk2 (v23 : IVec S16 32) : Prop :=
  (∀ a x, ((![v23] : Fin 1 → IVec S16 32) a x).toNat < S64.size a) ∧
  (∀ a x, ((![v23] : Fin 1 → IVec S16 32) a x).toNat < S64.size a)
theorem k0_idx3_inb : ∀ (v23 : IVec S16 32) (k0_hw2 : k0_chk2 v23), ∀ a x, ((![v23] : Fin 1 → IVec S16 32) a x).toNat < S64.size a := fun v23 k0_hw2 => k0_hw2.1
theorem k0_idx4_inb : ∀ (v23 : IVec S16 32) (k0_hw2 : k0_chk2 v23), ∀ a x, ((![v23] : Fin 1 → IVec S16 32) a x).toNat < S64.size a := fun v23 k0_hw2 => k0_hw2.2

def k0_chk3 (v31 : IVec S16 32) : Prop :=
  (∀ a x, ((![v31] : Fin 1 → IVec S16 32) a x).toNat < S64.size a) ∧
  (∀ a x, ((![v31] : Fin 1 → IVec S16 32) a x).toNat < S64.size a)
theorem k0_idx5_inb : ∀ (v31 : IVec S16 32) (k0_hw3 : k0_chk3 v31), ∀ a x, ((![v31] : Fin 1 → IVec S16 32) a x).toNat < S64.size a := fun v31 k0_hw3 => k0_hw3.1
theorem k0_idx6_inb : ∀ (v31 : IVec S16 32) (k0_hw3 : k0_chk3 v31), ∀ a x, ((![v31] : Fin 1 → IVec S16 32) a x).toNat < S64.size a := fun v31 k0_hw3 => k0_hw3.2

def k0_chk4 (v39 : IVec S16 32) : Prop :=
  (∀ a x, ((![v39] : Fin 1 → IVec S16 32) a x).toNat < S64.size a) ∧
  (∀ a x, ((![v39] : Fin 1 → IVec S16 32) a x).toNat < S64.size a)
theorem k0_idx7_inb : ∀ (v39 : IVec S16 32) (k0_hw4 : k0_chk4 v39), ∀ a x, ((![v39] : Fin 1 → IVec S16 32) a x).toNat < S64.size a := fun v39 k0_hw4 => k0_hw4.1
theorem k0_idx8_inb : ∀ (v39 : IVec S16 32) (k0_hw4 : k0_chk4 v39), ∀ a x, ((![v39] : Fin 1 → IVec S16 32) a x).toNat < S64.size a := fun v39 k0_hw4 => k0_hw4.2

def k0_chk5 (v47 : IVec S16 32) : Prop :=
  (∀ a x, ((![v47] : Fin 1 → IVec S16 32) a x).toNat < S64.size a) ∧
  (∀ a x, ((![v47] : Fin 1 → IVec S16 32) a x).toNat < S64.size a)
theorem k0_idx9_inb : ∀ (v47 : IVec S16 32) (k0_hw5 : k0_chk5 v47), ∀ a x, ((![v47] : Fin 1 → IVec S16 32) a x).toNat < S64.size a := fun v47 k0_hw5 => k0_hw5.1
theorem k0_idx10_inb : ∀ (v47 : IVec S16 32) (k0_hw5 : k0_chk5 v47), ∀ a x, ((![v47] : Fin 1 → IVec S16 32) a x).toNat < S64.size a := fun v47 k0_hw5 => k0_hw5.2

def k0_chk6 (v55 : IVec S16 32) : Prop :=
  (∀ a x, ((![v55] : Fin 1 → IVec S16 32) a x).toNat < S64.size a) ∧
  (∀ a x, ((![v55] : Fin 1 → IVec S16 32) a x).toNat < S64.size a)
theorem k0_idx11_inb : ∀ (v55 : IVec S16 32) (k0_hw6 : k0_chk6 v55), ∀ a x, ((![v55] : Fin 1 → IVec S16 32) a x).toNat < S64.size a := fun v55 k0_hw6 => k0_hw6.1
theorem k0_idx12_inb : ∀ (v55 : IVec S16 32) (k0_hw6 : k0_chk6 v55), ∀ a x, ((![v55] : Fin 1 → IVec S16 32) a x).toNat < S64.size a := fun v55 k0_hw6 => k0_hw6.2

def k0_chk7 (v63 : IVec S16 32) : Prop :=
  (∀ a x, ((![v63] : Fin 1 → IVec S16 32) a x).toNat < S64.size a) ∧
  (∀ a x, ((![v63] : Fin 1 → IVec S16 32) a x).toNat < S64.size a)
theorem k0_idx13_inb : ∀ (v63 : IVec S16 32) (k0_hw7 : k0_chk7 v63), ∀ a x, ((![v63] : Fin 1 → IVec S16 32) a x).toNat < S64.size a := fun v63 k0_hw7 => k0_hw7.1
theorem k0_idx14_inb : ∀ (v63 : IVec S16 32) (k0_hw7 : k0_chk7 v63), ∀ a x, ((![v63] : Fin 1 → IVec S16 32) a x).toNat < S64.size a := fun v63 k0_hw7 => k0_hw7.2

def k0_chk8 (v71 : IVec S16 32) : Prop :=
  (∀ a x, ((![v71] : Fin 1 → IVec S16 32) a x).toNat < S64.size a) ∧
  (∀ a x, ((![v71] : Fin 1 → IVec S16 32) a x).toNat < S64.size a)
theorem k0_idx15_inb : ∀ (v71 : IVec S16 32) (k0_hw8 : k0_chk8 v71), ∀ a x, ((![v71] : Fin 1 → IVec S16 32) a x).toNat < S64.size a := fun v71 k0_hw8 => k0_hw8.1
theorem k0_idx16_inb : ∀ (v71 : IVec S16 32) (k0_hw8 : k0_chk8 v71), ∀ a x, ((![v71] : Fin 1 → IVec S16 32) a x).toNat < S64.size a := fun v71 k0_hw8 => k0_hw8.2

def k0_chk9 (v79 : IVec S16 32) : Prop :=
  (∀ a x, ((![v79] : Fin 1 → IVec S16 32) a x).toNat < S64.size a) ∧
  (∀ a x, ((![v79] : Fin 1 → IVec S16 32) a x).toNat < S64.size a)
theorem k0_idx17_inb : ∀ (v79 : IVec S16 32) (k0_hw9 : k0_chk9 v79), ∀ a x, ((![v79] : Fin 1 → IVec S16 32) a x).toNat < S64.size a := fun v79 k0_hw9 => k0_hw9.1
theorem k0_idx18_inb : ∀ (v79 : IVec S16 32) (k0_hw9 : k0_chk9 v79), ∀ a x, ((![v79] : Fin 1 → IVec S16 32) a x).toNat < S64.size a := fun v79 k0_hw9 => k0_hw9.2

def k0_chk10 (v87 : IVec S16 32) : Prop :=
  (∀ a x, ((![v87] : Fin 1 → IVec S16 32) a x).toNat < S64.size a) ∧
  (∀ a x, ((![v87] : Fin 1 → IVec S16 32) a x).toNat < S64.size a)
theorem k0_idx19_inb : ∀ (v87 : IVec S16 32) (k0_hw10 : k0_chk10 v87), ∀ a x, ((![v87] : Fin 1 → IVec S16 32) a x).toNat < S64.size a := fun v87 k0_hw10 => k0_hw10.1
theorem k0_idx20_inb : ∀ (v87 : IVec S16 32) (k0_hw10 : k0_chk10 v87), ∀ a x, ((![v87] : Fin 1 → IVec S16 32) a x).toNat < S64.size a := fun v87 k0_hw10 => k0_hw10.2

def k0_chk11 (v95 : IVec S16 32) : Prop :=
  (∀ a x, ((![v95] : Fin 1 → IVec S16 32) a x).toNat < S64.size a) ∧
  (∀ a x, ((![v95] : Fin 1 → IVec S16 32) a x).toNat < S64.size a)
theorem k0_idx21_inb : ∀ (v95 : IVec S16 32) (k0_hw11 : k0_chk11 v95), ∀ a x, ((![v95] : Fin 1 → IVec S16 32) a x).toNat < S64.size a := fun v95 k0_hw11 => k0_hw11.1
theorem k0_idx22_inb : ∀ (v95 : IVec S16 32) (k0_hw11 : k0_chk11 v95), ∀ a x, ((![v95] : Fin 1 → IVec S16 32) a x).toNat < S64.size a := fun v95 k0_hw11 => k0_hw11.2

def k0_chk12 (v103 : IVec S16 32) : Prop :=
  (∀ a x, ((![v103] : Fin 1 → IVec S16 32) a x).toNat < S64.size a) ∧
  (∀ a x, ((![v103] : Fin 1 → IVec S16 32) a x).toNat < S64.size a)
theorem k0_idx23_inb : ∀ (v103 : IVec S16 32) (k0_hw12 : k0_chk12 v103), ∀ a x, ((![v103] : Fin 1 → IVec S16 32) a x).toNat < S64.size a := fun v103 k0_hw12 => k0_hw12.1
theorem k0_idx24_inb : ∀ (v103 : IVec S16 32) (k0_hw12 : k0_chk12 v103), ∀ a x, ((![v103] : Fin 1 → IVec S16 32) a x).toNat < S64.size a := fun v103 k0_hw12 => k0_hw12.2

def k0_chk13 (v111 : IVec S16 32) : Prop :=
  (∀ a x, ((![v111] : Fin 1 → IVec S16 32) a x).toNat < S64.size a) ∧
  (∀ a x, ((![v111] : Fin 1 → IVec S16 32) a x).toNat < S64.size a)
theorem k0_idx25_inb : ∀ (v111 : IVec S16 32) (k0_hw13 : k0_chk13 v111), ∀ a x, ((![v111] : Fin 1 → IVec S16 32) a x).toNat < S64.size a := fun v111 k0_hw13 => k0_hw13.1
theorem k0_idx26_inb : ∀ (v111 : IVec S16 32) (k0_hw13 : k0_chk13 v111), ∀ a x, ((![v111] : Fin 1 → IVec S16 32) a x).toNat < S64.size a := fun v111 k0_hw13 => k0_hw13.2

def k0_chk14 (v119 : IVec S16 32) : Prop :=
  (∀ a x, ((![v119] : Fin 1 → IVec S16 32) a x).toNat < S64.size a) ∧
  (∀ a x, ((![v119] : Fin 1 → IVec S16 32) a x).toNat < S64.size a)
theorem k0_idx27_inb : ∀ (v119 : IVec S16 32) (k0_hw14 : k0_chk14 v119), ∀ a x, ((![v119] : Fin 1 → IVec S16 32) a x).toNat < S64.size a := fun v119 k0_hw14 => k0_hw14.1
theorem k0_idx28_inb : ∀ (v119 : IVec S16 32) (k0_hw14 : k0_chk14 v119), ∀ a x, ((![v119] : Fin 1 → IVec S16 32) a x).toNat < S64.size a := fun v119 k0_hw14 => k0_hw14.2

def k0_chk15 (v127 : IVec S16 32) : Prop :=
  (∀ a x, ((![v127] : Fin 1 → IVec S16 32) a x).toNat < S64.size a) ∧
  (∀ a x, ((![v127] : Fin 1 → IVec S16 32) a x).toNat < S64.size a)
theorem k0_idx29_inb : ∀ (v127 : IVec S16 32) (k0_hw15 : k0_chk15 v127), ∀ a x, ((![v127] : Fin 1 → IVec S16 32) a x).toNat < S64.size a := fun v127 k0_hw15 => k0_hw15.1
theorem k0_idx30_inb : ∀ (v127 : IVec S16 32) (k0_hw15 : k0_chk15 v127), ∀ a x, ((![v127] : Fin 1 → IVec S16 32) a x).toNat < S64.size a := fun v127 k0_hw15 => k0_hw15.2

def k0_chk16 (v135 : IVec S16 32) : Prop :=
  (∀ a x, ((![v135] : Fin 1 → IVec S16 32) a x).toNat < S64.size a) ∧
  (∀ a x, ((![v135] : Fin 1 → IVec S16 32) a x).toNat < S64.size a)
theorem k0_idx31_inb : ∀ (v135 : IVec S16 32) (k0_hw16 : k0_chk16 v135), ∀ a x, ((![v135] : Fin 1 → IVec S16 32) a x).toNat < S64.size a := fun v135 k0_hw16 => k0_hw16.1
theorem k0_idx32_inb : ∀ (v135 : IVec S16 32) (k0_hw16 : k0_chk16 v135), ∀ a x, ((![v135] : Fin 1 → IVec S16 32) a x).toNat < S64.size a := fun v135 k0_hw16 => k0_hw16.2
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LocationsReference.lean ====
abbrev S8192x1 : Shape := ⟨2, ![8192, 1]⟩
abbrev S8x4x64 : Shape := ⟨3, ![8, 4, 64]⟩
abbrev S8192 : Shape := ⟨1, ![8192]⟩
abbrev S1x64 : Shape := ⟨2, ![1, 64]⟩
abbrev S8192x64 : Shape := ⟨2, ![8192, 64]⟩
abbrev S32x256x64 : Shape := ⟨3, ![32, 256, 64]⟩
abbrev S32x1x64 : Shape := ⟨3, ![32, 1, 64]⟩
abbrev S_ : Shape := ⟨0, ![]⟩
abbrev S32x256 : Shape := ⟨2, ![32, 256]⟩

abbrev nBuf : Space → Nat
  | .hbm => 23
  | .vmem => 0
  | .smem => 0
  | _ => 0

abbrev bufTy : (tb : Table) → Fin (tcTables nBuf tb) → BufTy
  | .hbm, ⟨0, _⟩ => ⟨S8192x1, .i32⟩
  | .hbm, ⟨1, _⟩ => ⟨S8x4x64, .i32⟩
  | .hbm, ⟨2, _⟩ => ⟨S8192, .i32⟩
  | .hbm, ⟨3, _⟩ => ⟨S8192x1, .i32⟩
  | .hbm, ⟨4, _⟩ => ⟨S1x64, .i32⟩
  | .hbm, ⟨5, _⟩ => ⟨S8192x64, .i32⟩
  | .hbm, ⟨6, _⟩ => ⟨S8192x64, .i32⟩
  | .hbm, ⟨7, _⟩ => ⟨S8192x64, .i1⟩
  | .hbm, ⟨8, _⟩ => ⟨S8192x64, .i32⟩
  | .hbm, ⟨9, _⟩ => ⟨S32x256x64, .i32⟩
  | .hbm, ⟨10, _⟩ => ⟨S32x1x64, .i32⟩
  | .hbm, ⟨11, _⟩ => ⟨S_, .i32⟩
  | .hbm, ⟨12, _⟩ => ⟨S_, .i32⟩
  | .hbm, ⟨13, _⟩ => ⟨S32x256x64, .i32⟩
  | .hbm, ⟨14, _⟩ => ⟨S32x256x64, .i32⟩
  | .hbm, ⟨15, _⟩ => ⟨S32x256x64, .i32⟩
  | .hbm, ⟨16, _⟩ => ⟨S_, .i32⟩
  | .hbm, ⟨17, _⟩ => ⟨S32x256x64, .i32⟩
  | .hbm, ⟨18, _⟩ => ⟨S32x256x64, .i32⟩
  | .hbm, ⟨19, _⟩ => ⟨S32x256x64, .i32⟩
  | .hbm, ⟨20, _⟩ => ⟨S_, .i32⟩
  | .hbm, ⟨21, _⟩ => ⟨S32x256, .i32⟩
  | .hbm, ⟨22, _⟩ => ⟨S8192, .i32⟩
  | _, _ => ⟨S8192x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_call0_c : Ref sig .tc := ⟨.hbm, 11, rfl⟩
abbrev main_call1_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Walk.lean ====
/-
  The counting walk of one tile, as functions: `hits ids n e` counts the first `n` tokens routed to expert `e`;
  `rank p ids q` is the location of token `q` of the chunk when the experts' counters start at `p`. One group of
  sixteen tokens steps the counters from `n` to `n + 16` tokens (`store_step`) and gives those tokens' locations
  (`loc_step`).
-/
module

public import Idealize.ShloMosaic.Lib.SparseCore.Ops

@[expose] public section

noncomputable section

namespace Cert.Proof.Walk

open Idealize.ShloMosaic

abbrev V16 : Shape := ⟨1, ![16]⟩
abbrev V64 : Shape := ⟨1, ![64]⟩
abbrev V256 : Shape := ⟨1, ![256]⟩

/-- How many of the first `n` tokens are routed to expert `e`. -/
def hits (ids : ℕ → ℕ) (n e : ℕ) : ℕ := ((Finset.range n).filter fun q => ids q = e).card

/-- The counter of expert `e` after `n` tokens, from its start `p e`. -/
def counter (p : ℕ → BitVec 32) (ids : ℕ → ℕ) (n e : ℕ) : BitVec 32 := p e + BitVec.ofNat 32 (hits ids n e)

/-- The location of token `q`: its expert's counter before it. -/
def rank (p : ℕ → BitVec 32) (ids : ℕ → ℕ) (q : ℕ) : BitVec 32 := counter p ids q (ids q)

/-- Lane `i` of a vector of sixteen. -/
def lane (i : Fin 16) : V16.Idx := fun a => Fin.cast (by rw [Fin.eq_zero a]; rfl) i

theorem lane_zero (i : Fin 16) : (lane i) 0 = i := rfl
theorem lane_eta (x : V16.Idx) : lane (x 0) = x := by
  funext a; rw [Fin.eq_zero a]; rfl

theorem hits_add (ids : ℕ → ℕ) (n k e : ℕ) :
    hits ids (n + k) e = hits ids n e + ((Finset.range k).filter fun j => ids (n + j) = e).card := by
  unfold hits
  have split : Finset.range (n + k) = Finset.range n ∪ Finset.Ico n (n + k) := by
    rw [Finset.range_eq_Ico, Finset.range_eq_Ico, Finset.Ico_union_Ico_eq_Ico (Nat.zero_le n) (Nat.le_add_right n k)]
  rw [split, Finset.filter_union, Finset.card_union_of_disjoint]
  · refine congrArg (_ + ·) (Finset.card_bij (s := (Finset.range k).filter fun j => ids (n + j) = e) (fun j _ => n + j) ?_ ?_ ?_).symm
    · intro j hj
      simp only [Finset.mem_filter, Finset.mem_range, Finset.mem_Ico] at hj ⊢
      exact ⟨by omega, hj.2⟩
    · intro a _ b _ h; exact Nat.add_left_cancel h
    · intro b hb
      simp only [Finset.mem_filter, Finset.mem_range, Finset.mem_Ico] at hb ⊢
      exact ⟨b - n, ⟨by omega, by rw [Nat.add_sub_cancel' hb.1.1]; exact hb.2⟩, Nat.add_sub_cancel' hb.1.1⟩
  · rw [Finset.disjoint_left]
    intro a ha hb
    simp only [Finset.mem_filter, Finset.mem_range, Finset.mem_Ico] at ha hb
    omega

theorem hits_succ (ids : ℕ → ℕ) (n e : ℕ) : hits ids (n + 1) e = hits ids n e + if ids n = e then 1 else 0 := by
  rw [hits_add]
  congr 1
  rw [Finset.range_one, Finset.filter_singleton]
  split <;> rename_i h <;> simp_all

/-- Lanes counted as numbers below sixteen. -/
theorem card_lanes (P : ℕ → Prop) [DecidablePred P] :
    (Finset.univ.filter fun j : V16.Idx => P (j 0).val).card = ((Finset.range 16).filter P).card := by
  refine Finset.card_bij (fun j _ => (j 0).val) ?_ ?_ ?_
  · intro j hj
    exact Finset.mem_filter.mpr ⟨Finset.mem_range.mpr (j 0).isLt, (Finset.mem_filter.mp hj).2⟩
  · intro a _ b _ h
    rw [← lane_eta a, ← lane_eta b]; exact congrArg lane (Fin.ext h)
  · intro b hb
    have hb' := Finset.mem_filter.mp hb
    exact ⟨lane ⟨b, Finset.mem_range.mp hb'.1⟩, Finset.mem_filter.mpr ⟨Finset.mem_univ _, hb'.2⟩, rfl⟩

/-- The all-ones mask. -/
abbrev ones : IVec V16 1 := broadcast V16 1#1

variable {ids : ℕ → ℕ} {n : ℕ} {v : IVec V16 32}

/-- The running count of a lane: the tokens of the group up to it that share its expert. -/
theorem scan_counts (hv : ∀ x, (v x).toNat = ids (n + (x 0).val)) (x : V16.Idx) :
    (scanCount ones v).2 x = BitVec.ofNat 32 (((Finset.range ((x 0).val + 1)).filter fun j => ids (n + j) = ids (n + (x 0).val)).card) := by
  unfold scanCount
  dsimp only
  refine (if_pos (show ones x = 1 from rfl)).trans (congrArg (BitVec.ofNat 32) ?_)
  have e : (Finset.univ.filter fun j : V16.Idx => (V16.rowMajor j).val ≤ (V16.rowMajor x).val ∧ ones j = 1 ∧ v j = v x)
      = Finset.univ.filter fun j : V16.Idx => (j 0).val ≤ (x 0).val ∧ ids (n + (j 0).val) = ids (n + (x 0).val) := by
    refine Finset.filter_congr fun j _ => ?_
    rw [Shape.rowMajor_val_one, Shape.rowMajor_val_one, ← hv j, ← hv x, BitVec.toNat_inj]
    exact and_congr_right fun _ => and_iff_right rfl
  refine (congrArg Finset.card e).trans ((card_lanes fun j => j ≤ (x 0).val ∧ ids (n + j) = ids (n + (x 0).val)).trans ?_)
  congr 1
  ext j
  have hx : (x 0).val < 16 := (x 0).isLt
  simp only [Finset.mem_filter, Finset.mem_range]
  constructor
  · rintro ⟨_, h, h'⟩; exact ⟨by omega, h'⟩
  · rintro ⟨h, h'⟩; exact ⟨by omega, by omega, h'⟩

theorem flag_iff (P : Prop) [Decidable P] : (if P then (1 : BitVec 1) else 0) = 1 ↔ P := by
  split <;> simp_all

/-- The flag of a lane: no later lane of the group shares its expert. -/
theorem scan_flags (hv : ∀ x, (v x).toNat = ids (n + (x 0).val)) (x : V16.Idx) :
    (scanCount ones v).1 x = 1 ↔ ∀ j : ℕ, j < 16 → (x 0).val < j → ids (n + j) ≠ ids (n + (x 0).val) := by
  unfold scanCount
  dsimp only
  refine (flag_iff _).trans ?_
  constructor
  · intro h j hj hxj e
    refine h.2 (lane ⟨j, hj⟩) ?_ ⟨rfl, BitVec.toNat_inj.mp ?_⟩
    · rw [Shape.rowMajor_val_one, Shape.rowMajor_val_one]; exact hxj
    · rw [hv, hv]; exact e
  · intro h
    refine ⟨rfl, fun j hxj e => ?_⟩
    rw [Shape.rowMajor_val_one, Shape.rowMajor_val_one] at hxj
    refine h (j 0).val (j 0).isLt hxj ?_
    rw [← hv j, ← hv x, e.2]

variable {F : FTy → Type} [FloatOps F] {f : Vec F V64 .i32} {p : ℕ → BitVec 32} {hb : ∀ a x, ((![v] : Fin 1 → IVec V16 32) a x).toNat < V64.size a}

/-- What the gather reads: the expert's counter at the group's start. -/
theorem load_apply (hf : ∀ e, f e = counter p ids n (e 0).val) (hv : ∀ x, (v x).toNat = ids (n + (x 0).val)) (x : V16.Idx) :
    (loadIdx f ![v] hb : IVec V16 32) x = counter p ids n (ids (n + (x 0).val)) := by
  show f (idxAt ![v] hb x) = _
  rw [hf, ← hv x]; rfl

/-- The group's new words: the counter after the lane. -/
theorem new_apply (hf : ∀ e, f e = counter p ids n (e 0).val) (hv : ∀ x, (v x).toNat = ids (n + (x 0).val)) (x : V16.Idx) :
    addi (loadIdx f ![v] hb : IVec V16 32) (scanCount ones v).2 x = counter p ids (n + ((x 0).val + 1)) (ids (n + (x 0).val)) := by
  show (loadIdx f ![v] hb : IVec V16 32) x + (scanCount ones v).2 x = _
  rw [load_apply hf hv, scan_counts hv]
  unfold counter
  rw [hits_add, BitVec.ofNat_add, BitVec.add_assoc]

/-- The locations stored: of each lane's token, its expert's counter before it. -/
theorem loc_step (hf : ∀ e, f e = counter p ids n (e 0).val) (hv : ∀ x, (v x).toNat = ids (n + (x 0).val)) (x : V16.Idx) :
    subi (addi (loadIdx f ![v] hb : IVec V16 32) (scanCount ones v).2) (broadcast V16 1#32) x = rank p ids (n + (x 0).val) := by
  show addi (loadIdx f ![v] hb : IVec V16 32) (scanCount ones v).2 x - 1#32 = _
  rw [new_apply hf hv, ← Nat.add_assoc]
  unfold rank counter
  rw [hits_succ, if_pos rfl, BitVec.ofNat_add, ← BitVec.add_assoc, BitVec.add_sub_cancel]

/-- A masked scatter whose set lanes agree where they name one element: every named element holds its value. -/
theorem store_apply {w : IVec V16 32} {mask : IVec V16 1} (e : V64.Idx) (val : BitVec 32)
    (hw : ∀ x, mask x = 1 → (v x).toNat = (e 0).val → w x = val) :
    (storeIdx f ![v] w mask false hb : IVec V64 32) e = if ∃ x, mask x = 1 ∧ (v x).toNat = (e 0).val then val else f e := by
  unfold storeIdx
  have key : ∀ (l : List (Fin 16)) (g : Vec F V64 .i32),
      (l.foldl (fun (g : Vec F V64 .i32) k =>
        let x : V16.Idx := Shape.ofLane (d := ![16]) k
        if mask x = 1 then
          let i := idxAt ![v] hb x
          let y : Elt F .i32 := if false then Elt.idxAdd .i32 (g i) (w x) else w x
          fun j => if (∀ a, (j a).val = (i a).val) then y else g j
        else g) g) e
        = if ∃ k ∈ l, mask (lane k) = 1 ∧ (v (lane k)).toNat = (e 0).val then val else g e := by
    intro l
    induction l with
    | nil => intro g; simp
    | cons k l ih =>
      intro g
      refine (ih _).trans ?_
      have hk : (Shape.ofLane (d := ![16]) k : V16.Idx) = lane k := by
        funext a; rw [Fin.eq_zero a]; rfl
      by_cases hl : ∃ k ∈ l, mask (lane k) = 1 ∧ (v (lane k)).toNat = (e 0).val
      · rw [if_pos hl, if_pos]
        obtain ⟨k', h, h'⟩ := hl
        exact ⟨k', List.mem_cons_of_mem _ h, h'⟩
      · rw [if_neg hl]
        simp only [hk]
        by_cases hm : mask (lane k) = 1
        · rw [if_pos hm]
          by_cases hn : (v (lane k)).toNat = (e 0).val
          · refine (if_pos fun a => ?_).trans ((hw _ hm hn).trans (if_pos ⟨k, List.mem_cons_self, hm, hn⟩).symm)
            rw [Fin.eq_zero a]; exact hn.symm
          · refine (if_neg fun h => hn (h 0).symm).trans (if_neg ?_).symm
            rintro ⟨k', h, h'⟩
            rcases List.mem_cons.mp h with rfl | h
            · exact hn h'.2
            · exact hl ⟨k', h, h'⟩
        · rw [if_neg hm, if_neg]
          rintro ⟨k', h, h'⟩
          rcases List.mem_cons.mp h with rfl | h
          · exact hm h'.1
          · exact hl ⟨k', h, h'⟩
  refine (key (List.finRange 16) f).trans ?_
  congr 1
  refine propext ⟨fun ⟨k, _, h⟩ => ⟨lane k, h⟩, fun ⟨x, h⟩ => ⟨x 0, List.mem_finRange _, ?_⟩⟩
  rw [lane_eta]; exact h

/-- The counters after the group. -/
theorem store_step (hf : ∀ e, f e = counter p ids n (e 0).val) (hv : ∀ x, (v x).toNat = ids (n + (x 0).val)) (e : V64.Idx) :
    (storeIdx f ![v] (addi (loadIdx f ![v] hb : IVec V16 32) (scanCount ones v).2) (scanCount ones v).1 false hb : IVec V64 32) e
      = counter p ids (n + 16) (e 0).val := by
  rw [store_apply e (counter p ids (n + 16) (e 0).val)]
  · by_cases hx : ∃ j, j < 16 ∧ ids (n + j) = (e 0).val
    · rw [if_pos]
      obtain ⟨j, hj, hlast⟩ : ∃ j, (j < 16 ∧ ids (n + j) = (e 0).val) ∧ ∀ j', (j' < 16 ∧ ids (n + j') = (e 0).val) → j' ≤ j := by
        have hne : ((Finset.range 16).filter fun j => ids (n + j) = (e 0).val).Nonempty := by
          obtain ⟨j, h, h'⟩ := hx
          exact ⟨j, Finset.mem_filter.mpr ⟨Finset.mem_range.mpr h, h'⟩⟩
        refine ⟨((Finset.range 16).filter fun j => ids (n + j) = (e 0).val).max' hne, ?_, fun j' hj' => Finset.le_max' _ j' (Finset.mem_filter.mpr ⟨Finset.mem_range.mpr hj'.1, hj'.2⟩)⟩
        have := Finset.mem_filter.mp (Finset.max'_mem _ hne)
        exact ⟨Finset.mem_range.mp this.1, this.2⟩
      refine ⟨lane ⟨j, hj.1⟩, (scan_flags hv _).mpr ?_, (hv _).trans hj.2⟩
      intro j' hj' hlt he
      have := hlast j' ⟨hj', he.trans hj.2⟩
      exact absurd hlt (Nat.not_lt.mpr this)
    · rw [if_neg, hf]
      · unfold counter
        rw [hits_add, Finset.card_eq_zero.mpr, Nat.add_zero]
        refine Finset.filter_eq_empty_iff.mpr fun j hj h => hx ⟨j, Finset.mem_range.mp hj, h⟩
      · rintro ⟨x, _, h⟩
        exact hx ⟨(x 0).val, (x 0).isLt, (hv x).symm.trans h⟩
  · intro x hm hx
    rw [new_apply hf hv, ← hv x, hx]
    have hlt : (x 0).val < 16 := (x 0).isLt
    unfold counter
    rw [show n + 16 = n + ((x 0).val + 1) + (15 - (x 0).val) by omega, hits_add ids (n + ((x 0).val + 1))]
    refine congrArg (fun k => p (e 0).val + BitVec.ofNat 32 k) ((Nat.add_zero _).symm.trans (congrArg (_ + ·) (Finset.card_eq_zero.mpr ?_).symm))
    refine Finset.filter_eq_empty_iff.mpr fun j hj h => ?_
    have := Finset.mem_range.mp hj
    refine (scan_flags hv x).mp hm ((x 0).val + 1 + j) (by omega) (by omega) ?_
    rw [← hv x, hx, ← h]; congr 1; omega

end Cert.Proof.Walk

end
-- ==== Proof.Group.lean ====
/-
  One group of sixteen tokens of a tile's walk, as a program and its rule: the tokens' experts are loaded, the
  experts' counters gathered, the tokens' locations stored, and the counters scattered back where a lane is its
  expert's last. `wp_walk` runs any number of groups; what a group keeps is `Held n`: the counters after `n` tokens
  and the first `n` locations.
-/
module

public import proofs.«01_k».proof.Proof.Walk
public import Idealize.ShloMosaic.Lib.Tactic

@[expose] public section

noncomputable section

namespace Cert.Proof.Walk

open Idealize.ShloMosaic
open Idealize.SL
open Idealize.SL.BI (sProp)
open scoped Idealize.SL.BI
open Idealize.SL.BI.BIBase Idealize.SL.BI.Laws Idealize.SL.Sem Idealize.SL.ProofMode
open Idealize.SL.RA

theorem numel16 : 0 < V16.numel := by decide
theorem numel256 : 0 < V256.numel := by decide
theorem numel64 : 0 < V64.numel := by decide

/-- Where a group sits in the chunk, and the side condition the program assumes of the experts it loads. -/
structure Step where
  o : ℕ
  inb : ∀ a, (![o] : Fin 1 → ℕ) a + V16.size a ≤ V256.size a
  chk : IVec V16 32 → Prop
  dec : ∀ v, Decidable (chk v)
  gat : ∀ v, chk v → ∀ a x, ((![v] : Fin 1 → IVec V16 32) a x).toNat < V64.size a
  sca : ∀ v, chk v → ∀ a x, ((![v] : Fin 1 → IVec V16 32) a x).toNat < V64.size a
  holds : ∀ v : IVec V16 32, (∀ a x, ((![v] : Fin 1 → IVec V16 32) a x).toNat < V64.size a) → chk v

/-- The group's sixteen places of the chunk. -/
abbrev Step.rect (S : Step) : Rect V256 := Rect.unit (s := V256) ![S.o] V16.size S.inb

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}

section Program
variable {p : Proc τ} (a5 : Memref sig p.kind .vmem V256 .i32) (a6 : Memref sig p.kind .vmem V64 .i32)
  (a7 : Memref sig p.kind .vmem V256 .i32)

/-- The group's operations. -/
def group (S : Step) : Prog (TpuEff nD τ sig (Elt F) Λ p) PUnit := do
  let v : Vec F V16 .i32 ← Prog.lift (.load a5 S.rect.toLoadRect (View.loadsAt_vmem numel16))
  have hw : S.chk v := (← Prog.lift (TpuEff.assume (S.chk v) (S.dec v))).down
  let old : Vec F V16 .i32 ← SparseCore.vectorLoadIdx a6 ![v] (S.gat v hw) (View.loads_vmem numel64)
  let _ : Vec F V16 .i32 ← Prog.lift (.load a7 S.rect.toLoadRect (View.loadsAt_vmem numel16))
  Prog.lift (.store a7 S.rect (subi (addi old (scanCount ones v).2) (broadcast V16 1#32) : IVec V16 32) Finset.univ
    (View.stores_vmem_bits_univ numel16 rfl) (.inl rfl))
  SparseCore.vectorStoreIdx a6 ![v] (addi old (scanCount ones v).2 : IVec V16 32) (scanCount ones v).1 false (S.sca v hw)
    (View.stores_vmem_bits_univ numel64 rfl)

/-- Groups one after the other. -/
def walk : List Step → Prog (TpuEff nD τ sig (Elt F) Λ p) PUnit
  | [] => pure ⟨⟩
  | S :: L => group (F := F) a5 a6 a7 S >>= fun _ => walk L

end Program

variable {defs : Defs nD τ sig (Elt F) Λ} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

variable (a5 : Memref sig c.2.kind .vmem V256 .i32) (a6 : Memref sig c.2.kind .vmem V64 .i32)
  (a7 : Memref sig c.2.kind .vmem V256 .i32)

omit [FloatOps F] in
theorem set_access_whole (m : Memref sig c.2.kind .vmem V64 .i32) : (m.access (.whole V64)).set = m.view.set := by
  show (m.view.slice (.whole V64)).set = _
  rw [View.set_slice, Rect.set_whole]; rfl

omit [FloatOps F] in
theorem read_access_whole (m : Memref sig c.2.kind .vmem V64 .i32) (f : Buf (Elt F) (m.view.loc c)) :
    (m.access (.whole V64)).read (Elt F) f = m.view.read (Elt F) f := by
  funext x
  show m.view.read (Elt F) f ((Rect.whole V64).emb x) = _
  rw [Rect.emb_whole_apply]

omit [FloatOps F] in
theorem read_write_whole (m : Memref sig c.2.kind .vmem V64 .i32) (f : Buf (Elt F) (m.view.loc c)) (w : V64.Idx → Elt F .i32) :
    m.view.read (Elt F) ((m.access (.whole V64)).write (Elt F) f w Finset.univ) = w := by
  funext x
  have h := View.read_slice_write_emb (v := m.view) (Val := Elt F) (.whole V64) f w (x := x) (Finset.mem_univ _)
  rw [Rect.emb_whole_apply] at h
  exact h

omit [FloatOps F] in
theorem coord_rect (S : Step) (x : V16.Idx) : ((S.rect.emb x) 0).val = S.o + (x 0).val := by
  rw [Rect.emb_apply]; simp

/-- What a tile holds between groups, `n` tokens in. -/
def Held (ids : ℕ → ℕ) (p : ℕ → BitVec 32) (q : PosShare TreeShare) (f5 : Buf (Elt F) (a5.view.loc c)) (n : ℕ) : sProp 𝕄 :=
  iprop(∃ (f6 : Buf (Elt F) (a6.view.loc c)) (f7 : Buf (Elt F) (a7.view.loc c)),
    ⌜(∀ e : V64.Idx, a6.view.read (Elt F) f6 e = counter p ids n (e 0).val)
      ∧ ∀ x : V256.Idx, (x 0).val < n → a7.view.read (Elt F) f7 x = rank p ids (x 0).val⌝
    ∗ (a5.view.loc c ↦[a5.view.set]{q} f5) ∗ (a6.view.loc c ↦[a6.view.set]{fullShare} f6)
    ∗ (a7.view.loc c ↦[a7.view.set]{fullShare} f7))

variable {ids : ℕ → ℕ} {p : ℕ → BitVec 32} {q : PosShare TreeShare} {f5 : Buf (Elt F) (a5.view.loc c)}

/-- What a group's stores leave. -/
theorem group_facts (S : Step) (v : IVec V16 32) (hb : ∀ a x, ((![v] : Fin 1 → IVec V16 32) a x).toNat < V64.size a)
    (f6 : Buf (Elt F) (a6.view.loc c)) (f7 : Buf (Elt F) (a7.view.loc c))
    (h6 : ∀ e : V64.Idx, a6.view.read (Elt F) f6 e = counter p ids S.o (e 0).val)
    (h7 : ∀ x : V256.Idx, (x 0).val < S.o → a7.view.read (Elt F) f7 x = rank p ids (x 0).val)
    (hv : ∀ x : V16.Idx, (v x).toNat = ids (S.o + (x 0).val)) :
    (∀ e : V64.Idx, a6.view.read (Elt F) ((a6.access (.whole V64)).write (Elt F) f6
      (storeIdx (a6.view.read (Elt F) f6) ![v] (addi (loadIdx (a6.view.read (Elt F) f6) ![v] hb : IVec V16 32) (scanCount ones v).2 : IVec V16 32)
        (scanCount ones v).1 false hb) Finset.univ) e = counter p ids (S.o + 16) (e 0).val)
    ∧ ∀ x : V256.Idx, (x 0).val < S.o + 16 → a7.view.read (Elt F) ((a7.access S.rect).write (Elt F) f7
      (subi (addi (loadIdx (a6.view.read (Elt F) f6) ![v] hb : IVec V16 32) (scanCount ones v).2) (broadcast V16 1#32) : IVec V16 32)
        Finset.univ) x = rank p ids (x 0).val := by
  have h16 : V16.size 0 = 16 := rfl
  refine ⟨fun e => ?_, fun x hx => ?_⟩
  · rw [read_write_whole]
    exact store_step h6 hv e
  · by_cases hxo : (x 0).val < S.o
    · refine (View.read_slice_write_of_not_mem _ _ _ _ ?_).trans (h7 x hxo)
      intro hm
      obtain ⟨y, -, hy⟩ := Finset.mem_map.mp hm
      have := coord_rect S y
      rw [hy] at this; omega
    · have hxe : x = S.rect.emb (lane ⟨(x 0).val - S.o, by omega⟩) := by
        funext a; rw [Fin.eq_zero a]
        refine Fin.ext ?_
        rw [coord_rect, lane_zero]
        show (x 0).val = S.o + ((x 0).val - S.o)
        omega
      rw [hxe]
      refine (View.read_slice_write_emb _ _ _ (Finset.mem_univ _)).trans ?_
      rw [coord_rect]
      exact loc_step h6 hv _

/-- One group. -/
theorem wp_group (h5 : ∀ x : V256.Idx, (show BitVec 32 from a5.view.read (Elt F) f5 x).toNat = ids (x 0).val) (hlt : ∀ n, n < 256 → ids n < 64)
    (S : Step) (k : PUnit → Prog (TpuEff nD τ sig (Elt F) Λ c.2) α) :
    (Held c a5 a6 a7 ids p q f5 S.o : sProp 𝕄)
      ⊢ iprop((Held c a5 a6 a7 ids p q f5 (S.o + 16) -∗ wp frame (wpE defs 𝒱 c bd) E (k ⟨⟩) Q)
        -∗ wp frame (wpE defs 𝒱 c bd) E (group (F := F) a5 a6 a7 S >>= k) Q) := by
  have ho : S.o + 16 ≤ 256 := S.inb 0
  unfold Held
  have hg : group (F := F) (Λ := Λ) a5 a6 a7 S >>= k = .op (.load a5 S.rect.toLoadRect (View.loadsAt_vmem numel16)) fun v : IVec V16 32 =>
      .op (.assume (S.chk v) (S.dec v)) fun hw => SparseCore.vectorLoadIdx a6 ![v] (S.gat v hw.down) (View.loads_vmem numel64)
        >>= fun old => .op (.load a7 S.rect.toLoadRect (View.loadsAt_vmem numel16)) fun _ => .op (.store a7 S.rect
          (subi (addi old (scanCount ones v).2) (broadcast V16 1#32) : IVec V16 32) Finset.univ
          (View.stores_vmem_bits_univ numel16 rfl) (.inl rfl)) fun _ => SparseCore.vectorStoreIdx a6 ![v]
            (addi old (scanCount ones v).2 : IVec V16 32) (scanCount ones v).1 false (S.sca v hw.down)
            (View.stores_vmem_bits_univ numel64 rfl) >>= k := rfl
  rw [hg]
  iintro ⟨%f6, %f7, %hf, H5, H6, H7⟩ Hk
  obtain ⟨h6, h7⟩ := hf
  iapply (wp_load (defs := defs) 𝒱 c bd E (Q := Q) (View.setOn_subset_set _ _)) $$ H5
  iintro H5
  have hv : ∀ x : V16.Idx, ((a5.view.readAt (Elt F) S.rect.toLoadRect f5 : IVec V16 32) x).toNat = ids (S.o + (x 0).val) := by
    intro x
    rw [← coord_rect]; exact h5 _
  generalize (a5.view.readAt (Elt F) S.rect.toLoadRect f5 : IVec V16 32) = v at hv
  have hc : S.chk v := S.holds v (by
    intro a x; rw [Fin.eq_zero a]
    show (v x).toNat < 64
    rw [hv]; have : (x 0).val < 16 := (x 0).isLt
    exact hlt _ (by omega))
  iapply (wp_assume (defs := defs) 𝒱 c bd E hc)
  iapply (SparseCore.wp_vectorLoadIdx (defs := defs) 𝒱 c bd E (Q := Q) (base := a6) (S := a6.view.set) (by rw [set_access_whole])) $$ H6
  iintro H6
  rw [read_access_whole]
  iapply (wp_load (defs := defs) 𝒱 c bd E (Q := Q) (View.setOn_subset_set _ _)) $$ H7
  iintro H7
  iapply (wp_store (defs := defs) 𝒱 c bd E (Q := Q) (m := a7) (r := S.rect) (S := a7.view.set) (f := f7) ((View.setOn_subset_set _ _).trans (View.set_slice_subset _ _))) $$ H7
  iintro H7
  rw [← set_access_whole]
  iapply (SparseCore.wp_vectorStoreIdx (defs := defs) 𝒱 c bd E (Q := Q) (base := a6)) $$ H6
  iintro H6
  iapply Hk
  rw [set_access_whole, read_access_whole]
  have hfin := group_facts c a6 a7 S v (S.gat v hc) f6 f7 h6 h7 hv
  iexists ((a6.access (.whole V64)).write (Elt F) f6
      (storeIdx (a6.view.read (Elt F) f6) ![v] (addi (loadIdx (a6.view.read (Elt F) f6) ![v] (S.gat v hc) : IVec V16 32) (scanCount ones v).2 : IVec V16 32)
        (scanCount ones v).1 false (S.gat v hc)) Finset.univ),
    ((a7.access S.rect).write (Elt F) f7
      (subi (addi (loadIdx (a6.view.read (Elt F) f6) ![v] (S.gat v hc) : IVec V16 32) (scanCount ones v).2) (broadcast V16 1#32) : IVec V16 32)
        Finset.univ)
  isplitr
  · ipureintro
    exact hfin
  · isplitl [H5]; · iexact H5
    isplitl [H6]; · iexact H6
    iexact H7

/-- The offsets of a list of groups, one after the other from `n`. -/
def Steps : ℕ → List Step → Prop
  | _, [] => True
  | n, S :: L => S.o = n ∧ Steps (n + 16) L

/-- Groups one after the other. -/
theorem wp_walk (h5 : ∀ x : V256.Idx, (show BitVec 32 from a5.view.read (Elt F) f5 x).toNat = ids (x 0).val) (hlt : ∀ n, n < 256 → ids n < 64)
    (k : PUnit → Prog (TpuEff nD τ sig (Elt F) Λ c.2) α) (L : List Step) (n : ℕ) (hL : Steps n L) :
    (Held c a5 a6 a7 ids p q f5 n : sProp 𝕄)
      ⊢ iprop((Held c a5 a6 a7 ids p q f5 (n + 16 * L.length) -∗ wp frame (wpE defs 𝒱 c bd) E (k ⟨⟩) Q)
        -∗ wp frame (wpE defs 𝒱 c bd) E (walk (F := F) a5 a6 a7 L >>= k) Q) := by
  induction L generalizing n with
  | nil =>
    iintro H Hk
    iapply Hk; iexact H
  | cons S L ih =>
    obtain ⟨rfl, hL⟩ := hL
    show _ ⊢ iprop(_ -∗ wp frame (wpE defs 𝒱 c bd) E ((group (F := F) a5 a6 a7 S >>= fun _ => walk (F := F) a5 a6 a7 L) >>= k) Q)
    rw [bind_assoc]
    iintro H Hk
    iapply (wp_group (defs := defs) 𝒱 c bd E (Q := Q) a5 a6 a7 h5 hlt S fun _ => walk (F := F) a5 a6 a7 L >>= k) $$ H
    iintro H
    iapply (ih (S.o + 16) hL) $$ H
    rw [show S.o + 16 + 16 * L.length = S.o + 16 * (S :: L).length by rw [List.length_cons]; omega]
    iexact Hk

end Cert.Proof.Walk

end
-- ==== Proof.Tile.lean ====
/-
  A tile's whole program, over any program's buffers, and its rule: the chunk's experts and the row of counters are
  fetched by two transfers in flight together, the walk runs, and the locations are written out. What the tile leaves
  in its part of the result is `rank`.
-/
module

public import proofs.«01_k».proof.Proof.Group
public import Idealize.ShloMosaic.Lib.Transfers

@[expose] public section

noncomputable section

namespace Cert.Proof.Walk

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name] [Infinite Name]
variable {U : Type} [URA U] [CountersIn U] {Lvl : Type} [Preorder Lvl] {Λ : Labels}

/-- The tile's program: `i2` its chunk of the experts, `i3` its row of counters, `i4` its part of the result. -/
def tile {p : Proc τ} (i2 : Memref sig p.kind .hbm V256 .i32) (h2 : i2.view.WordExact) (i3 : Memref sig p.kind .hbm V64 .i32)
    (h3 : i3.view.WordExact) (i4 : Memref sig p.kind .hbm V256 .i32) (h4 : i4.view.WordExact)
    (a5 : Memref sig p.kind .vmem V256 .i32) (h5 : a5.view.WordExact) (a6 : Memref sig p.kind .vmem V64 .i32) (h6 : a6.view.WordExact)
    (a7 : Memref sig p.kind .vmem V256 .i32) (h7 : a7.view.WordExact) (s8 s9 s10 : DmaSem sig) (L : List Step) :
    Prog (TpuEff nD τ sig (Elt F) Λ p) PUnit :=
  .op (.enqueueDma i2 (.here a5) (.dma s8) h2 h5 ⟨Or.inl rfl, trivial⟩) fun _ =>
  .op (.enqueueDma i3 (.here a6) (.dma s9) h3 h6 ⟨Or.inl rfl, trivial⟩) fun _ =>
  .op (.waitDma2 s8 i2 a5 h2 h5) fun _ =>
  .op (.waitDma2 s9 i3 a6 h3 h6) fun _ =>
  walk (F := F) a5 a6 a7 L >>= fun _ =>
  .op (.enqueueDma a7 (.here i4) (.dma s10) h7 h4 ⟨Or.inl rfl, trivial⟩) fun _ =>
  .op (.waitDma2 s10 a7 i4 h7 h4) fun _ => .ret ⟨⟩

variable {defs : Defs nD τ sig (Elt F) Λ} (𝒱 : Variants) (c : Thread nD τ) (bd : Option 𝒱.V)

local notation "𝕄" => MT nD τ sig Ix (Elt F) Name U Lvl

variable (i2 : Memref sig c.2.kind .hbm V256 .i32) (h2 : i2.view.WordExact) (i3 : Memref sig c.2.kind .hbm V64 .i32)
    (h3 : i3.view.WordExact) (i4 : Memref sig c.2.kind .hbm V256 .i32) (h4 : i4.view.WordExact)
    (a5 : Memref sig c.2.kind .vmem V256 .i32) (h5 : a5.view.WordExact) (a6 : Memref sig c.2.kind .vmem V64 .i32) (h6 : a6.view.WordExact)
    (a7 : Memref sig c.2.kind .vmem V256 .i32) (h7 : a7.view.WordExact) (s8 s9 s10 : DmaSem sig) (L : List Step)

/-- The tile's run. -/
theorem wp_tile {ids : ℕ → ℕ} {p : ℕ → BitVec 32} (hL : Steps 0 L) (hlen : L.length = 16) (ι : Ix)
    {fi : Buf (Elt F) (i2.view.loc c)} {fr : Buf (Elt F) (i3.view.loc c)} {fo : Buf (Elt F) (i4.view.loc c)}
    {f5 : Buf (Elt F) (a5.view.loc c)} {f6 : Buf (Elt F) (a6.view.loc c)} {f7 : Buf (Elt F) (a7.view.loc c)}
    (hi : ∀ x : V256.Idx, (show BitVec 32 from i2.view.read (Elt F) fi x).toNat = ids (x 0).val) (hlt : ∀ n, n < 256 → ids n < 64)
    (hr : ∀ e : V64.Idx, i3.view.read (Elt F) fr e = p (e 0).val)
    (O : CellTallies nD τ sig Ix) (W : Waits sig Ix) :
    iprop((i2.view.loc c ↦[i2.view.set]{fullShare} fi) ∗ (i3.view.loc c ↦[i3.view.set]{fullShare} fr)
        ∗ (i4.view.loc c ↦[i4.view.set]{fullShare} fo)
        ∗ (a5.view.loc c ↦[a5.view.set]{fullShare} f5) ∗ (a6.view.loc c ↦[a6.view.set]{fullShare} f6)
        ∗ (a7.view.loc c ↦[a7.view.set]{fullShare} f7)
        ∗ semVal (c, .dma s8) 0 ∗ semVal (c, .dma s9) 0 ∗ semVal (c, .dma s10) 0
        ∗ owes c O W ∗ Transfers.MayWaits c ι O)
      ⊢ wp (M := 𝕄) frame (wpE defs 𝒱 c bd) Set.univ (tile (F := F) i2 h2 i3 h3 i4 h4 a5 h5 a6 h6 a7 h7 s8 s9 s10 L)
        fun _ => iprop((i2.view.loc c ↦[i2.view.set]{fullShare} fi) ∗ (i3.view.loc c ↦[i3.view.set]{fullShare} fr)
          ∗ (∃ f, ⌜∀ x : V256.Idx, i4.view.read (Elt F) f x = rank p ids (x 0).val⌝ ∗ (i4.view.loc c ↦[i4.view.set]{fullShare} f))
          ∗ (∃ f, a5.view.loc c ↦[a5.view.set]{fullShare} f) ∗ (∃ f, a6.view.loc c ↦[a6.view.set]{fullShare} f)
          ∗ (∃ f, a7.view.loc c ↦[a7.view.set]{fullShare} f)
          ∗ semVal (c, .dma s8) 0 ∗ semVal (c, .dma s9) 0 ∗ semVal (c, .dma s10) 0
          ∗ ∃ W', ⌜∀ w ∈ W', w ∈ W ∨ w.2 = ι⌝ ∗ owes c O W') := by
  unfold tile
  iintro ⟨H2, H3, H4, H5, H6, H7, S8, S9, S10, HO, #Hmw⟩
  iapply (Transfers.wp_dmaLocal (defs := defs) countersEmb 𝒱 c bd ι (a5.view.dmaCredit) rfl (View.dmaCredit_pos _ numel256) (Finset.Subset.refl _)) $$ [H2 H5 S8]
  · isplitl [H2]; · iexact H2
    isplitl [H5]; · iexact H5
    iexact S8
  iintro F8
  iapply (Transfers.wp_dmaLocal (defs := defs) countersEmb 𝒱 c bd ι (a6.view.dmaCredit) rfl (View.dmaCredit_pos _ numel64) (Finset.Subset.refl _)) $$ [H3 H6 S9]
  · isplitl [H3]; · iexact H3
    isplitl [H6]; · iexact H6
    iexact S9
  iintro F9
  iapply (Transfers.wp_waitLocalO (defs := defs) countersEmb 𝒱 c bd ι (rfl : a5.view.dmaCredit = _)) $$ [F8 HO]
  · isplitl [F8]; · iexact F8
    isplitl [HO]; · iexact HO
    iapply (Transfers.MayWaits.elim (SemLoc.dma s8)) $$ Hmw
  iintro ⟨⟨H5, H2⟩, S8, HO⟩
  iapply (Transfers.wp_waitLocalO (defs := defs) countersEmb 𝒱 c bd ι (rfl : a6.view.dmaCredit = _)) $$ [F9 HO]
  · isplitl [F9]; · iexact F9
    isplitl [HO]; · iexact HO
    iapply (Transfers.MayWaits.elim (SemLoc.dma s9)) $$ Hmw
  iintro ⟨⟨H6, H3⟩, S9, HO⟩
  have hw : ∀ x : V256.Idx, (show BitVec 32 from a5.view.read (Elt F) (a5.view.write (Elt F) f5
      ((ReadAs.same : ReadAs (Elt F) V256 .i32 V256 .i32).apply (i2.view.read (Elt F) fi)) Finset.univ) x).toNat = ids (x 0).val := by
    intro x
    rw [View.read_write_univ]; exact hi x
  iapply (wp_walk (defs := defs) 𝒱 c bd Set.univ (p := p) (ids := ids) a5 a6 a7 hw hlt _ L 0 hL) $$ [H5 H6 H7]
  · unfold Held
    iexists (a6.view.write (Elt F) f6 ((ReadAs.same : ReadAs (Elt F) V64 .i32 V64 .i32).apply (i3.view.read (Elt F) fr)) Finset.univ), f7
    isplitr
    · ipureintro
      refine ⟨fun e => ?_, fun x hx => absurd hx (Nat.not_lt_zero _)⟩
      rw [View.read_write_univ]
      refine (hr e).trans ?_
      unfold counter hits
      simp
    · isplitl [H5]; · iexact H5
      isplitl [H6]; · iexact H6
      iexact H7
  rw [hlen]
  unfold Held
  iintro ⟨%g6, %g7, %hg, H5, H6, H7⟩
  iapply (Transfers.wp_dmaLocal (defs := defs) countersEmb 𝒱 c bd ι (i4.view.dmaCredit) rfl (View.dmaCredit_pos _ numel256) (Finset.Subset.refl _)) $$ [H7 H4 S10]
  · isplitl [H7]; · iexact H7
    isplitl [H4]; · iexact H4
    iexact S10
  iintro F10
  iapply (Transfers.wp_waitLocalO (defs := defs) countersEmb 𝒱 c bd ι (rfl : i4.view.dmaCredit = _)) $$ [F10 HO]
  · isplitl [F10]; · iexact F10
    isplitl [HO]; · iexact HO
    iapply (Transfers.MayWaits.elim (SemLoc.dma s10)) $$ Hmw
  iintro ⟨⟨H4, H7⟩, S10, HO⟩
  iapply (le_wp_ret _ _ _ _ _)
  isplitl [H2]; · iexact H2
  isplitl [H3]; · iexact H3
  isplitl [H4]
  · iexists _
    isplitr; swap; · iexact H4
    ipureintro
    intro x
    rw [View.read_write_univ]
    exact hg.2 x (x 0).isLt
  isplitl [H5]; · iexists _; iexact H5
  isplitl [H6]; · iexists _; iexact H6
  isplitl [H7]; · iexists _; iexact H7
  isplitl [S8]; · iexact S8
  isplitl [S9]; · iexact S9
  isplitl [S10]; · iexact S10
  iexists _; isplitr; swap; · iexact HO
  ipureintro; intro w hw
  rcases Finset.mem_insert.mp hw with hw | hw; · exact .inr (hw ▸ rfl)
  rcases Finset.mem_insert.mp hw with hw | hw; · exact .inr (hw ▸ rfl)
  rcases Finset.mem_insert.mp hw with hw | hw; · exact .inr (hw ▸ rfl)
  exact .inl hw

end Cert.Proof.Walk

end
-- ==== Proof.LocBody.lean ====
/-
  The tile's program of the SparseCore call, read as the walk's program (`Walk.tile`).
-/
module

public import proofs.«01_k».proof.Proof.Gen.Locations.Skeleton
public import proofs.«01_k».proof.Proof.Tile

@[expose] public section

noncomputable section

namespace Cert.Proof.Loc

open Idealize.ShloMosaic Idealize.SL.Sem
open Cert.Locations Cert.Locations.Gen

variable {F : FTy → Type} [FloatOps F]

/-- The chunk's sixteen groups. -/
def groups : List Walk.Step := [
  ⟨0, inb_S256_S16_0, k0_chk1, k0_chk1.dec, k0_idx1_inb, k0_idx2_inb, fun _ h => ⟨h, h⟩⟩,
  ⟨16, inb_S256_S16_16, k0_chk2, k0_chk2.dec, k0_idx3_inb, k0_idx4_inb, fun _ h => ⟨h, h⟩⟩,
  ⟨32, inb_S256_S16_32, k0_chk3, k0_chk3.dec, k0_idx5_inb, k0_idx6_inb, fun _ h => ⟨h, h⟩⟩,
  ⟨48, inb_S256_S16_48, k0_chk4, k0_chk4.dec, k0_idx7_inb, k0_idx8_inb, fun _ h => ⟨h, h⟩⟩,
  ⟨64, inb_S256_S16_64, k0_chk5, k0_chk5.dec, k0_idx9_inb, k0_idx10_inb, fun _ h => ⟨h, h⟩⟩,
  ⟨80, inb_S256_S16_80, k0_chk6, k0_chk6.dec, k0_idx11_inb, k0_idx12_inb, fun _ h => ⟨h, h⟩⟩,
  ⟨96, inb_S256_S16_96, k0_chk7, k0_chk7.dec, k0_idx13_inb, k0_idx14_inb, fun _ h => ⟨h, h⟩⟩,
  ⟨112, inb_S256_S16_112, k0_chk8, k0_chk8.dec, k0_idx15_inb, k0_idx16_inb, fun _ h => ⟨h, h⟩⟩,
  ⟨128, inb_S256_S16_128, k0_chk9, k0_chk9.dec, k0_idx17_inb, k0_idx18_inb, fun _ h => ⟨h, h⟩⟩,
  ⟨144, inb_S256_S16_144, k0_chk10, k0_chk10.dec, k0_idx19_inb, k0_idx20_inb, fun _ h => ⟨h, h⟩⟩,
  ⟨160, inb_S256_S16_160, k0_chk11, k0_chk11.dec, k0_idx21_inb, k0_idx22_inb, fun _ h => ⟨h, h⟩⟩,
  ⟨176, inb_S256_S16_176, k0_chk12, k0_chk12.dec, k0_idx23_inb, k0_idx24_inb, fun _ h => ⟨h, h⟩⟩,
  ⟨192, inb_S256_S16_192, k0_chk13, k0_chk13.dec, k0_idx25_inb, k0_idx26_inb, fun _ h => ⟨h, h⟩⟩,
  ⟨208, inb_S256_S16_208, k0_chk14, k0_chk14.dec, k0_idx27_inb, k0_idx28_inb, fun _ h => ⟨h, h⟩⟩,
  ⟨224, inb_S256_S16_224, k0_chk15, k0_chk15.dec, k0_idx29_inb, k0_idx30_inb, fun _ h => ⟨h, h⟩⟩,
  ⟨240, inb_S256_S16_240, k0_chk16, k0_chk16.dec, k0_idx31_inb, k0_idx32_inb, fun _ h => ⟨h, h⟩⟩]

theorem groups_steps : Walk.Steps 0 groups := by
  unfold groups; repeat' constructor
theorem groups_length : groups.length = 16 := rfl

/-- The tile's chunk of the experts, its row of the counters and its part of the result. -/
abbrev iChunk (L : grid0.Coords) : Memref sig .scVector .hbm S256 .i32 :=
  (Memref.whole main_v0_scv : Memref sig .scVector .hbm S8192 .i32).slice (Rect.unit (s := S8192) (k0_off1 L) S256.size (k0_off1_inb L)) (fun _ => rfl)
abbrev pRow (L : grid0.Coords) : Memref sig .scVector .hbm S64 .i32 :=
  ((Memref.whole main_v1_scv : Memref sig .scVector .hbm S32x64 .i32).slice (Rect.unit (s := S32x64) (k0_off2 L) S1x64.size (k0_off2_inb L))
    (fun _ => rfl)).squeeze S64 squeezes_S1x64_S64
abbrev oChunk (L : grid0.Coords) : Memref sig .scVector .hbm S256 .i32 :=
  (Memref.whole main_v2_scv : Memref sig .scVector .hbm S8192 .i32).slice (Rect.unit (s := S8192) (k0_off3 L) S256.size (k0_off3_inb L)) (fun _ => rfl)

set_option maxRecDepth 65536 in
set_option maxHeartbeats 4000000 in
theorem body_eq (L : grid0.Coords) :
    cc0__loc_kernel (F := F) L (Memref.whole main_v0_scv) (Memref.isWhole_whole _) (Memref.whole main_v1_scv) (Memref.isWhole_whole _)
        (Memref.whole main_v2_scv) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scoped0
      = Walk.tile (F := F) (iChunk L) (View.wordExact_bits rfl) (pRow L) ((View.wordExact_bits rfl).reshape _ _) (oChunk L) (View.wordExact_bits rfl)
          (Memref.whole cc0_scratch0) (Memref.isWhole_whole _).wordExact (Memref.whole cc0_scratch1) (Memref.isWhole_whole _).wordExact
          (Memref.whole cc0_scratch2) (Memref.isWhole_whole _).wordExact cc0_scratch3.sem cc0_scratch4.sem cc0_scoped0.sem groups := by
  rfl

end Cert.Proof.Loc

end
-- ==== Proof.Places.lean ====
/-
  What the SparseCore call computes, as a function of its two operands: the location of each token. Token `256 * w + n`
  is token `n` of tile `w`'s chunk, whose counters start at row `w` of the table.
-/
module

public import proofs.«01_k».proof.Proof.Walk

@[expose] public section

namespace Cert.Proof.Walk

open Idealize.ShloMosaic

abbrev V1x64 : Shape := ⟨2, ![1, 64]⟩
abbrev V8192 : Shape := ⟨1, ![8192]⟩
abbrev V32x64 : Shape := ⟨2, ![32, 64]⟩

/-- Token `n` of the whole sequence. -/
def token (n : Fin 8192) : V8192.Idx := fun a => Fin.cast (by rw [Fin.eq_zero a]; rfl) n
/-- Entry `(w, e)` of the table of counters. -/
def entry (w : Fin 32) (e : Fin 64) : V32x64.Idx := Fin.cons w (Fin.cons e fun a => a.elim0)

/-- The experts of chunk `w`. -/
def idsOf (fi : V8192.Idx → BitVec 32) (w n : ℕ) : ℕ := if h : 256 * w + n < 8192 then (fi (token ⟨_, h⟩)).toNat else 0
/-- The counters chunk `w` starts from. -/
def startOf (fp : V32x64.Idx → BitVec 32) (w e : ℕ) : BitVec 32 := if h : w < 32 ∧ e < 64 then fp (entry ⟨w, h.1⟩ ⟨e, h.2⟩) else 0

/-- The location of every token. -/
def places (fi : V8192.Idx → BitVec 32) (fp : V32x64.Idx → BitVec 32) : V8192.Idx → BitVec 32 :=
  fun x => rank (startOf fp ((x 0).val / 256)) (idsOf fi ((x 0).val / 256)) ((x 0).val % 256)

theorem idsOf_lt {fi : V8192.Idx → BitVec 32} (h : ∀ x, (fi x).toNat < 64) (w n : ℕ) : idsOf fi w n < 64 := by
  unfold idsOf; split
  · exact h _
  · decide

theorem token_eq {x : V8192.Idx} {n : ℕ} (hn : n < 8192) (h : (x 0).val = n) : token ⟨n, hn⟩ = x := by
  funext a
  match a with
  | 0 => exact Fin.ext h.symm
theorem entry_eq {x : V32x64.Idx} {w e : ℕ} (hw : w < 32) (he : e < 64) (h0 : (x 0).val = w) (h1 : (x 1).val = e) :
    entry ⟨w, hw⟩ ⟨e, he⟩ = x := by
  funext a
  match a with
  | 0 => exact Fin.ext h0.symm
  | 1 => exact Fin.ext h1.symm

theorem idsOf_eq (fi : V8192.Idx → BitVec 32) {w n : ℕ} {x : V8192.Idx} (h : (x 0).val = 256 * w + n) : idsOf fi w n = (fi x).toNat := by
  have hx : 256 * w + n < 8192 := h ▸ (x 0).isLt
  unfold idsOf; rw [dif_pos hx, token_eq hx h]
theorem startOf_eq (fp : V32x64.Idx → BitVec 32) {w e : ℕ} {x : V32x64.Idx} (h0 : (x 0).val = w) (h1 : (x 1).val = e) : startOf fp w e = fp x := by
  have hw : w < 32 := h0 ▸ (x 0).isLt
  have he : e < 64 := h1 ▸ (x 1).isLt
  unfold startOf; rw [dif_pos ⟨hw, he⟩, entry_eq hw he h0 h1]

/-! ## A tile's chunk and row, as rectangles -/

variable {s c : ℕ}

theorem mem_chunk {off : Fin 1 → ℕ} (ho : off = ![512 * s + 256 * c]) (inb) (x : V8192.Idx) :
    x ∈ (Rect.unit (s := V8192) off V256.size inb).set ↔ (x 0).val / 256 = 2 * s + c := by
  subst ho
  rw [Rect.mem_set_unit]
  constructor
  · intro h
    have := h 0
    change 512 * s + 256 * c ≤ (x 0).val ∧ (x 0).val < 512 * s + 256 * c + 256 at this
    omega
  · intro h a
    match a with
    | 0 => show 512 * s + 256 * c ≤ (x 0).val ∧ (x 0).val < 512 * s + 256 * c + 256; omega

theorem mem_row {off : Fin 2 → ℕ} (ho : off = ![2 * s + c, 0]) (inb) (x : V32x64.Idx) :
    x ∈ (Rect.unit (s := V32x64) off V1x64.size inb).set ↔ (x 0).val = 2 * s + c := by
  subst ho
  rw [Rect.mem_set_unit]
  constructor
  · intro h
    have := h 0
    change 2 * s + c ≤ (x 0).val ∧ (x 0).val < 2 * s + c + 1 at this
    omega
  · intro h a
    match a with
    | 0 => show 2 * s + c ≤ (x 0).val ∧ (x 0).val < 2 * s + c + 1; omega
    | 1 => exact ⟨Nat.zero_le _, by have := (x 1).isLt; change (x 1).val < 64 at this; show (x 1).val < 0 + 64; omega⟩

theorem chunk_emb {off : Fin 1 → ℕ} (ho : off = ![512 * s + 256 * c]) (inb) (x : V256.Idx) :
    ((Rect.unit (s := V8192) off V256.size inb).emb x 0).val = 256 * (2 * s + c) + (x 0).val := by
  subst ho
  show 512 * s + 256 * c + 1 * (x 0).val = _
  omega

theorem row_emb {off : Fin 2 → ℕ} (ho : off = ![2 * s + c, 0]) (inb) (h : V64.numel = V1x64.numel) (e : V64.Idx) :
    (((Rect.unit (s := V32x64) off V1x64.size inb).emb (Shape.reshapeEquiv (s := V1x64) h e) 0).val = 2 * s + c)
      ∧ ((Rect.unit (s := V32x64) off V1x64.size inb).emb (Shape.reshapeEquiv (s := V1x64) h e) 1).val = (e 0).val := by
  subst ho
  have hr : Shape.reshapeEquiv (s := V1x64) h e = Fin.cons (0 : Fin 1) (Fin.cons (e 0 : Fin 64) fun a => a.elim0) := by
    apply Shape.reshapeEquiv_eq_of_rowMajor
    rw [Shape.rowMajor_val_two, Shape.rowMajor_val_one]
    show 0 * 64 + (e 0).val = _
    omega
  rw [hr]
  exact ⟨by show 2 * s + c + 1 * 0 = _; omega, by show 0 + 1 * (e 0).val = _; omega⟩

/-- What a tile leaves in its chunk is that chunk of `places`. -/
theorem places_chunk (fi : V8192.Idx → BitVec 32) (fp : V32x64.Idx → BitVec 32) {w n : ℕ} {x : V8192.Idx} (hn : n < 256)
    (h : (x 0).val = 256 * w + n) : rank (startOf fp w) (idsOf fi w) n = places fi fp x := by
  unfold places
  rw [show (x 0).val / 256 = w by omega, show (x 0).val % 256 = n by omega]

end Cert.Proof.Walk

end
-- ==== Proof.LocTile.lean ====
/-
  The SparseCore call's launch (`Locations`): what the handshakes carry and the tile's obligation. Tile `(c, s)` is handed
  its chunk of the experts, its row of the table of counters and its part of the result, and hands them back, its part of
  the result at the tokens' locations (`Walk.places`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.Locations
public import proofs.«01_k».proof.Proof.LocBody
public import proofs.«01_k».proof.Proof.Places

@[expose] public section

noncomputable section

namespace Cert.Proof.Loc

open Cert.Locations Cert.Locations.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev iLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2

-- The call's operands and the result's contents before it.
variable (fi : (d : Dev nD) → Buf (Elt F) (iLoc d)) (fp : (d : Dev nD) → Buf (Elt F) (pLoc d)) (fo : (d : Dev nD) → Buf (Elt F) (oLoc d))

/-- The result. -/
def out (d : Dev nD) : Buf (Elt F) (oLoc d) := Walk.places (fi d) (fp d)

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile is handed, and what it hands back. -/
def given (d : Dev nD) (L : grid0.Coords) : sProp 𝕄 :=
  iprop((iLoc d ↦[(iChunk L).view.set]{fullShare} fi d) ∗ (pLoc d ↦[(pRow L).view.set]{fullShare} fp d) ∗ (oLoc d ↦[(oChunk L).view.set]{fullShare} fo d))
def taken (d : Dev nD) (L : grid0.Coords) : sProp 𝕄 := given fi fp (fun d => out fi fp d) d L

instance given_storable (d : Dev nD) (L : grid0.Coords) : BI.Storable (upEmb : UEmb _ 𝕄) (given fi fp fo d L) := by unfold given; infer_instance
instance taken_storable (d : Dev nD) (L : grid0.Coords) : BI.Storable (upEmb : UEmb _ 𝕄) (taken fi fp d L) := by unfold taken; infer_instance

def P : (K (F := F)).Pay (nD := nD) (Val := Elt F) (Name := ℕ) (U := UU) where
  st := fun q d c => match q with | 0 => bigSep Finset.univ fun i : Fin ((K (F := F)).nSub 0) => given fi fp fo d (coordsV c i)
  dn := fun q d c => match q with | 0 => bigSep Finset.univ fun i : Fin ((K (F := F)).nSub 0) => taken fi fp d (coordsV c i)
  go := fun q d c i => match q with | 0 => given fi fp fo d (coordsV c i)
  td := fun q d c i => match q with | 0 => taken fi fp d (coordsV c i)
  x := fun _ _ => iprop(emp)

theorem givens_storable (d : Dev nD) (L : Fin 16 → grid0.Coords) :
    BI.Storable (upEmb : UEmb _ 𝕄) (bigSep Finset.univ fun i : Fin 16 => given fi fp fo d (L i)) := inferInstance
theorem takens_storable (d : Dev nD) (L : Fin 16 → grid0.Coords) :
    BI.Storable (upEmb : UEmb _ 𝕄) (bigSep Finset.univ fun i : Fin 16 => taken fi fp d (L i)) := inferInstance

instance P_storable : (P fi fp fo).IsStorable where
  st q d c := match q with | 0 => givens_storable fi fp fo d fun i => coordsV c i
  dn q d c := match q with | 0 => takens_storable fi fp d fun i => coordsV c i
  go q d c i := match q with | 0 => given_storable fi fp fo d (coordsV c i)
  td q d c i := match q with | 0 => taken_storable fi fp d (coordsV c i)

/-- The experts are lanes of the table. -/
def InRange : Prop := ∀ (d : Dev nD) (x : S8192.Idx), (show BitVec 32 from fi d x).toNat < 64

/-! ## The tile -/

section Tile

variable (d : Dev nD) (L : grid0.Coords)

abbrev cV (L : grid0.Coords) : Fin τ.nSC := (L 0).castLE hcore0
abbrev jV (L : grid0.Coords) : Fin τ.nSub := (L 1).castLE hsub0
/-- The chunk's number. -/
abbrev wV (L : grid0.Coords) : ℕ := 2 * (L 1).val + (L 0).val

theorem read_i (x : Walk.V256.Idx) :
    (show BitVec 32 from (iChunk L).view.read (Elt F) (fi d) x).toNat = Walk.idsOf (fi d) (wV L) (x 0).val :=
  (Walk.idsOf_eq (fi d) (w := wV L) (n := (x 0).val) (Walk.chunk_emb (k0_off1_eq L) (k0_off1_inb L) x)).symm
theorem read_p (e : Walk.V64.Idx) : (pRow L).view.read (Elt F) (fp d) e = Walk.startOf (fp d) (wV L) (e 0).val :=
  let h := Walk.row_emb (k0_off2_eq L) (k0_off2_inb L) squeezes_S1x64_S64.numel_eq e
  (Walk.startOf_eq (fp d) h.1 h.2).symm

/-- A tile's part of the result at the ranks is that part of `out`. -/
theorem out_part (f : Buf (Elt F) (oLoc d))
    (h : ∀ x : Walk.V256.Idx, (oChunk L).view.read (Elt F) f x = Walk.rank (Walk.startOf (fp d) (wV L)) (Walk.idsOf (fi d) (wV L)) (x 0).val) :
    (oLoc d ↦[(oChunk L).view.set]{fullShare} f : sProp 𝕄) = oLoc d ↦[(oChunk L).view.set]{fullShare} out fi fp d := by
  refine pointsTo_congr fun y hy => ?_
  obtain ⟨x, -, rfl⟩ := Finset.mem_map.mp hy
  refine (h x).trans (Walk.places_chunk (fi d) (fp d) (x 0).isLt ?_)
  exact Walk.chunk_emb (k0_off3_eq L) (k0_off3_inb L) x

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own (b : Ref sig .scVector) (h) := SparseCore.Cfg.mem_ownRefs_of_owner (p := Proc.scVector (cV L) (jV L)) (b := (Proc.scVector (cV L) (jV L)).devRef b) h
  have ne {a b : Ref sig .scVector} (h : a ≠ b) : (Proc.scVector (cV L) (jV L)).devRef a ≠ (Proc.scVector (cV L) (jV L)).devRef b :=
    fun e => absurd (Proc.devRef_injective _ e) h
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]

variable [FloatOps F]

set_option maxHeartbeats 4000000 in
/-- The task on tile `(L 0, L 1)` of device `d`. -/
theorem tile_body (hF : (K (F := F)).Facts) (hi : InRange fi) (O : CellTallies nD τ sig (HIx 1)) (W : Waits sig (HIx 1)) (hO : ∀ g, O g none = 0) :
    iprop(levAts (K (F := F)).L (K (F := F)).lev ∗ emp ∗ given fi fp fo d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__loc_kernel (F := F) L (Memref.whole main_v0_scv) (Memref.isWhole_whole _) (Memref.whole main_v1_scv) (Memref.isWhole_whole _)
        (Memref.whole main_v2_scv) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scoped0)
          fun _ => iprop(taken fi fp d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq, (K (F := F)).scopedBufs_V hF d (cV L) (jV L), SparseCore.Cfg.scopedSems0_V (Val := Elt F) d (cV L) (jV L), ownSems0_V, ownBufs_V]
  have w0 : (Memref.whole cc0_scratch0 : Memref sig .scVector .vmem S256 .i32).view.set = Finset.univ := View.set_whole _
  have w1 : (Memref.whole cc0_scratch1 : Memref sig .scVector .vmem S64 .i32).view.set = Finset.univ := View.set_whole _
  have w2 : (Memref.whole cc0_scratch2 : Memref sig .scVector .vmem S256 .i32).view.set = Finset.univ := View.set_whole _
  unfold taken given
  iintro ⟨#Hlv, -, ⟨Hi, Hp, Ho⟩, ⟨⟨%f5, H5⟩, ⟨%f6, H6⟩, ⟨%f7, H7⟩, Hbufs⟩, ⟨HsA, HsB, HsC, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  iapply (wp_wand frame (wpE (defs₀ (F := F)) 𝒱₀ (V d (cV L) (jV L)) none)) $$ [Hi Hp Ho H5 H6 H7 HsA HsB HsC HO Hmw]
  · iapply (Walk.wp_tile (F := F) (defs := defs₀ (F := F)) 𝒱₀ (V d (cV L) (jV L)) none (iChunk L) (View.wordExact_bits rfl) (pRow L)
      ((View.wordExact_bits rfl).reshape _ _) (oChunk L) (View.wordExact_bits rfl)
      (Memref.whole cc0_scratch0) (Memref.isWhole_whole _).wordExact (Memref.whole cc0_scratch1) (Memref.isWhole_whole _).wordExact
      (Memref.whole cc0_scratch2) (Memref.isWhole_whole _).wordExact cc0_scratch3.sem cc0_scratch4.sem cc0_scoped0.sem groups
      groups_steps groups_length (none : HIx 1) (fi := fi d) (fr := fp d) (fo := fo d) (f5 := f5) (f6 := f6) (f7 := f7)
      (read_i fi d L) (fun n _ => Walk.idsOf_lt (hi d) _ n) (read_p fp d L) O W)
    rw [w0, w1, w2]
    iframe
    iexact Hmw
  iintro %_ ⟨Hi, Hp, ⟨%f, %hf, Ho⟩, H5, H6, H7, HsA, HsB, HsC, HO⟩
  rw [w0, w1, w2]
  isplitl [Hi Hp Ho]
  · isplitl [Hi]; · iexact Hi
    isplitl [Hp]; · iexact Hp
    iapply (Entails.of_eq (out_part fi fp d L f hf)); iexact Ho
  isplitl [H5 H6 H7 Hbufs]
  · isplitl [H5]; · iexact H5
    isplitl [H6]; · iexact H6
    isplitl [H7]; · iexact H7
    iexact Hbufs
  isplitl [HsA HsB HsC Hsems]
  · isplitl [HsA]; · iexact HsA
    isplitl [HsB]; · iexact HsB
    isplitl [HsC]; · iexact HsC
    iexact Hsems
  iexact HO

/-! ## The obligation -/

theorem defs₀_vector (c : Fin τ.nSC) (s : Fin τ.nSub) :
    defs₀ (F := F) (.scVector c s) 0 ()
      = SparseCore.onTile hcore0 hsub0 (fun c s => cc0__loc_kernel (F := F) (coordsV c s) (Memref.whole main_v0_scv) (Memref.isWhole_whole _)
          (Memref.whole main_v1_scv) (Memref.isWhole_whole _) (Memref.whole main_v2_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hi : InRange fi) : (K (F := F)).TileObl (D (F := F)) 𝒱 (P fi fp fo) v₀ 0 := by
  intro d c i O W hO _ _
  simp only [show (P fi fp fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi fp fo d (coordsV ⟨_, hci.1⟩ ⟨_, hci.2⟩) facts hi O W hO).trans (wp_mono frame _ _ fun _ => obl_post)

end Tile

end Cert.Proof.Loc

end
-- ==== Proof.Pieces.lean ====
/-
  An array as its thirty-two tiles' parts: tile `i` of SparseCore `c` holds the indices of key `2 * i + c`.
-/
module

public import Idealize.ShloMosaic.Lib.SparseCore.Ops
public import Idealize.ShloMosaic.Lib.Tactic

@[expose] public section

noncomputable section

namespace Cert.Proof.Walk

open Idealize.ShloMosaic
open Idealize.SL
open Idealize.SL.BI (sProp bigSep bigSep_univ_prod)
open scoped Idealize.SL.BI
open Idealize.SL.BI.BIBase Idealize.SL.BI.Laws
open Idealize.SL.RA

variable {nD : Nat} {τ : Topo} {sig : RefSig} {Ix : Type} [DecidableEq Ix] {Val : EltTy → Type}
variable {Name : Type} [DecidableEq Name] {U : Type} [URA U] {Lvl : Type} [Preorder Lvl]

local notation "𝕄" => MT nD τ sig Ix Val Name U Lvl

theorem pts_pieces {ℓ : Loc nD τ sig} (f : Buf Val ℓ) (A : Fin 2 → Fin 16 → Finset (Idx ℓ)) (key : Idx ℓ → ℕ) (hk : ∀ x, key x < 32)
    (h : ∀ c i x, x ∈ A c i ↔ key x = 2 * i.val + c.val) :
    (ℓ ↦{fullShare} f : sProp 𝕄) = bigSep Finset.univ fun c => bigSep Finset.univ fun i => ℓ ↦[A c i]{fullShare} f := by
  rw [← bigSep_univ_prod (fun x : Fin 2 × Fin 16 => (ℓ ↦[A x.1 x.2]{fullShare} f : sProp 𝕄)),
    ← pointsTo_biUnion Finset.univ (ℓ := ℓ) (fun x : Fin 2 × Fin 16 => A x.1 x.2)]
  · congr 1
    refine (Finset.eq_univ_iff_forall.mpr fun x => ?_).symm
    have hx := hk x
    exact Finset.mem_biUnion.mpr ⟨(⟨key x % 2, by omega⟩, ⟨key x / 2, by omega⟩), Finset.mem_univ _, (h _ _ _).mpr (by dsimp only; omega)⟩
  · intro x _ y _ hxy
    refine Finset.disjoint_left.mpr fun z hz hz' => hxy ?_
    have h1 := (h _ _ _).mp hz
    have h2 := (h _ _ _).mp hz'
    have := x.1.isLt
    have := y.1.isLt
    exact Prod.ext (Fin.ext (by omega)) (Fin.ext (by omega))

end Cert.Proof.Walk

end
-- ==== Proof.LocRun.lean ====
/-
  The SparseCore call's program (`Locations`) run: @main reshapes the two arguments and makes the one call; its result is
  the locations of the tokens (`Walk.places`), the arguments are unchanged and every semaphore is back at zero.
-/
module

public import proofs.«01_k».proof.Proof.LocTile
public import proofs.«01_k».proof.Proof.Pieces

@[expose] public section

noncomputable section

namespace Cert.Proof.Loc

open Cert.Locations Cert.Locations.Gen

open Idealize.ShloMosaic
open Idealize.ShloMosaic.SparseCore (S V T)
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays split into the tiles' pieces -/

section Split

variable (fi : (d : Dev nD) → Buf (Elt F) (iLoc d)) (fp : (d : Dev nD) → Buf (Elt F) (pLoc d)) (fo : (d : Dev nD) → Buf (Elt F) (oLoc d))

theorem mem_i (L : grid0.Coords) (x : S8192.Idx) : x ∈ (iChunk L).view.set ↔ (x 0).val / 256 = 2 * (L 1).val + (L 0).val := by
  rw [show (iChunk L).view.set = (Rect.unit (s := S8192) (k0_off1 L) S256.size (k0_off1_inb L)).set from
    (View.set_slice _ _).trans Finset.map_refl]
  exact Walk.mem_chunk (k0_off1_eq L) _ x
theorem mem_p (L : grid0.Coords) (x : S32x64.Idx) : x ∈ (pRow L).view.set ↔ (x 0).val = 2 * (L 1).val + (L 0).val := by
  rw [show (pRow L).view.set = (Rect.unit (s := S32x64) (k0_off2 L) S1x64.size (k0_off2_inb L)).set from
    (View.set_reshape _ _).trans ((View.set_slice _ _).trans Finset.map_refl)]
  exact Walk.mem_row (k0_off2_eq L) _ x
theorem mem_o (L : grid0.Coords) (x : S8192.Idx) : x ∈ (oChunk L).view.set ↔ (x 0).val / 256 = 2 * (L 1).val + (L 0).val := by
  rw [show (oChunk L).view.set = (Rect.unit (s := S8192) (k0_off3 L) S256.size (k0_off3_inb L)).set from
    (View.set_slice _ _).trans Finset.map_refl]
  exact Walk.mem_chunk (k0_off3_eq L) _ x

/-- The three arrays whole are what the thirty-two tiles are given. -/
theorem given_all (d : Dev nD) :
    (iprop((iLoc d ↦{fullShare} fi d) ∗ (pLoc d ↦{fullShare} fp d) ∗ oLoc d ↦{fullShare} fo d) : sProp 𝕄)
      = bigSep Finset.univ fun c : Fin 2 => bigSep Finset.univ fun i : Fin 16 => given fi fp fo d (coordsV c i) := by
  unfold given
  simp only [bigSep_sep']
  rw [← Walk.pts_pieces (ℓ := iLoc d) (fi d) (fun c i => (iChunk (coordsV c i)).view.set) (fun x : S8192.Idx => (x 0).val / 256)
      (fun x => by have := (x 0).isLt; change (x 0).val < 8192 at this; omega) (fun c i x => mem_i (coordsV c i) x),
    ← Walk.pts_pieces (ℓ := pLoc d) (fp d) (fun c i => (pRow (coordsV c i)).view.set) (fun x : S32x64.Idx => (x 0).val)
      (fun x => (x 0).isLt) (fun c i x => mem_p (coordsV c i) x),
    ← Walk.pts_pieces (ℓ := oLoc d) (fo d) (fun c i => (oChunk (coordsV c i)).view.set) (fun x : S8192.Idx => (x 0).val / 256)
      (fun x => by have := (x 0).isLt; change (x 0).val < 8192 at this; omega) (fun c i x => mem_o (coordsV c i) x)]

theorem st0_eq (d : Dev nD) : (bigSep Finset.univ fun c : Fin ((K (F := F)).nCore 0) => (P fi fp fo).st 0 d c)
    = iprop((iLoc d ↦{fullShare} fi d) ∗ (pLoc d ↦{fullShare} fp d) ∗ oLoc d ↦{fullShare} fo d) := (given_all fi fp fo d).symm
theorem dn0_eq (d : Dev nD) : (bigSep Finset.univ fun c : Fin ((K (F := F)).nCore 0) => (P fi fp fo).dn 0 d c)
    = iprop((iLoc d ↦{fullShare} fi d) ∗ (pLoc d ↦{fullShare} fp d) ∗ oLoc d ↦{fullShare} out fi fp d) :=
  (given_all fi fp (fun d => out fi fp d) d).symm

theorem vecSplit : (K (F := F)).VecSplit' (P fi fp fo) 0 := by
  intro d c
  show (bigSep Finset.univ fun i : Fin 16 => given fi fp fo d (coordsV c i)) ⊢ |={Set.univ}=> iprop(
    (bigSep Finset.univ fun i : Fin 16 => given fi fp fo d (coordsV c i))
      ∗ ((bigSep Finset.univ fun i : Fin 16 => taken fi fp d (coordsV c i)) -∗ bigSep Finset.univ fun i : Fin 16 => taken fi fp d (coordsV c i)))
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fi fp fo).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P fi fp fo).x q thr) = bigSep Finset.univ fun _ => iprop(emp) from
    bigSep_congr fun _ _ => bigSep_univ_of_subsingleton (0 : Fin 1), bigSep_emp']
  iempintro

end Split

/-! ## @main on the TensorCore -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev p' : DevRef τ sig := Proc.devRef .tc (main_v1 : Ref sig .tc)
abbrev o' : DevRef τ sig := Proc.devRef .tc (main_v2 : Ref sig .tc)
abbrev op0 : HloOp τ sig (Elt F) := StableHlo.reshape main_arg0 main_v0 (rfl : (.i32 : EltTy) = .i32) shapeCasts_S8192x1_S8192
abbrev op1 : HloOp τ sig (Elt F) := StableHlo.reshape main_arg1 main_v1 (rfl : (.i32 : EltTy) = .i32) shapeCasts_S8x4x64_S32x64

abbrev a0Loc (d : Dev nD) : Loc nD τ sig := (SparseCore.T d).loc main_arg0
abbrev a1Loc (d : Dev nD) : Loc nD τ sig := (SparseCore.T d).loc main_arg1

/-- @main's arrays. -/
abbrev S5 : Finset (DevRef τ sig) := {a0', a1', i', p', o'}

theorem held_S5 (d : Dev nD) (W : Valuation τ sig (Elt F)) :
    (held (T d) S5 W : sProp 𝕄) = iprop((a0Loc d ↦{fullShare} W a0') ∗ (a1Loc d ↦{fullShare} W a1') ∗ (iLoc d ↦{fullShare} W i')
      ∗ (pLoc d ↦{fullShare} W p') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- The experts and the table, as the call gets them. -/
def fi (d : Dev nD) : Buf (Elt F) (iLoc d) := shapeCast S8192 (m (a0Loc d)) shapeCasts_S8192x1_S8192
def fp (d : Dev nD) : Buf (Elt F) (pLoc d) := shapeCast S32x64 (m (a1Loc d)) shapeCasts_S8x4x64_S32x64
abbrev fo (d : Dev nD) : Buf (Elt F) (oLoc d) := m (oLoc d)

theorem held_V2 (d : Dev nD) : (held (T d) S5 ((op1 (F := F)).result ((op0 (F := F)).result (V0 m d))) : sProp 𝕄)
    = iprop((a0Loc d ↦{fullShare} m (a0Loc d)) ∗ (a1Loc d ↦{fullShare} m (a1Loc d)) ∗ (iLoc d ↦{fullShare} fi m d)
      ∗ (pLoc d ↦{fullShare} fp m d) ∗ oLoc d ↦{fullShare} fo m d) := by
  rw [held_S5]
  have n1 {b : DevRef τ sig} (h : b ≠ p') (W) : (op1 (F := F)).result W b = W b := (op1 (F := F)).result_of_not_mem W (Finset.mem_singleton.not.mpr h)
  have n0 {b : DevRef τ sig} (h : b ≠ i') (W) : (op0 (F := F)).result W b = W b := (op0 (F := F)).result_of_not_mem W (Finset.mem_singleton.not.mpr h)
  rw [n1 (show a0' ≠ p' by decide), n0 (show a0' ≠ i' by decide), n1 (show a1' ≠ p' by decide), n0 (show a1' ≠ i' by decide),
    n1 (show i' ≠ p' by decide), n1 (show o' ≠ p' by decide), n0 (show o' ≠ i' by decide),
    StableHlo.reshape_result, StableHlo.reshape_result, n0 (show a1' ≠ i' by decide)]
  rfl

/-- What @main leaves the claim. -/
abbrev FIN (d : Dev nD) : sProp 𝕄 :=
  iprop((a0Loc d ↦{fullShare} m (a0Loc d)) ∗ (a1Loc d ↦{fullShare} m (a1Loc d)) ∗ oLoc d ↦{fullShare} out (fi m) (fp m) d)

variable [FloatOps F]

theorem hmain (κ : GSem nD τ sig → ℕ) (d : Dev nD) :
    iprop((K (F := F)).ctx EH (P (fi m) (fp m) (fo m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S5) (show ({a0', i'} : Finset (DevRef τ sig)) ⊆ S5 by decide) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S5) (show ({a1', p'} : Finset (DevRef τ sig)) ⊆ S5 by decide)
    (V := (op0 (F := F)).result (V0 m d))) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨H0, H1, Hi, Hp, Ho⟩
  iapply ((K (F := F)).wp_run (D (F := F)) 𝒱 (EH := EH) (P := P (fi m) (fp m) (fo m)) κ d 0) $$ [Hst H0 H1 Hi Hp Ho Hb Hts]
  isplitr; · iexact Hctx
  isplitl [Hst]; · iexact Hst
  isplitl [Hi Hp Ho]
  · rw [st0_eq]
    isplitl [Hi]; · iexact Hi
    isplitl [Hp]; · iexact Hp
    iexact Ho
  iintro ⟨Hst, Hdn⟩
  ihave Hdn' := (Entails.of_eq (dn0_eq (fi m) (fp m) (fo m) d)) $$ Hdn
  icases Hdn' with ⟨-, -, Ho⟩
  imodintro
  isplitl [Hst]; · iexact Hst
  isplitr [Hb Hts]
  · isplitl [H0]; · iexact H0
    isplitl [H1]; · iexact H1
    iexact Ho
  isplitl [Hb] <;> iassumption

def fq (d : Dev nD) (s' : Phys nD τ sig (Elt F)) : Prop :=
  s'.mem.mem (a0Loc d) = m (a0Loc d) ∧ s'.mem.mem (a1Loc d) = m (a1Loc d) ∧ s'.mem.mem (oLoc d) = out (fi m) (fp m) d

/-- An array held whole is what the memory holds. -/
theorem read_off (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, Ho⟩, HSI⟩
  ihave H := (read_off s' (a0Loc d) (m (a0Loc d))) $$ [H0 HSI]; · isplitl [H0] <;> iassumption
  icases H with ⟨%h0, HSI⟩
  ihave H := (read_off s' (a1Loc d) (m (a1Loc d))) $$ [H1 HSI]; · isplitl [H1] <;> iassumption
  icases H with ⟨%h1, HSI⟩
  ihave H := (read_off s' (oLoc d) (out (fi m) (fp m) d)) $$ [Ho HSI]; · isplitl [Ho] <;> iassumption
  icases H with ⟨%h2, HSI⟩
  ipureintro; exact ⟨h0, h1, h2⟩

/-! ## The run -/

def QC : PUnit × MemSt nD τ sig (Elt F) → Prop := fun r =>
  (∀ c : Dev nD, r.2.mem (a0Loc c) = m (a0Loc c) ∧ r.2.mem (a1Loc c) = m (a1Loc c) ∧ r.2.mem (oLoc c) = out (fi m) (fp m) c) ∧ r.2.sem = fun _ => 0

theorem run_main [∀ e, Nonempty (Elt F e)] (hi : InRange (fi m)) :
    θ_run (Cert.Locations.defs (F := F)) (Cert.Locations.threads (F := F)) ⟨m, fun _ => 0, ρ⟩ (QC m) :=
  SparseCore.Cfg.θ_run_sc_quiescent (K := K (F := F)) (D := D (F := F)) (𝒱 := 𝒱) (EH := EH) (P := P (fi m) (fp m) (fo m)) (A := ∅) facts v₀
    (fun q hq => match q with | 0 => nomatch hq)
    (fun q _ => match q with | 0 => tileObl (fi m) (fp m) (fo m) hi)
    (fun q _ => match q with | 0 => SparseCore.Cfg.VecSplit.of_plain (vecSplit (fi m) (fp m) (fo m)))
    m ρ main (fun _ => iprop(emp)) (FIN m) (u₀ (F := F)) (sep_elim_left.trans (hu₀ (fi m) (fp m) (fo m))) (hmain m ρ) (fq m) (hfin m) (QC m) (fun _ h hz => ⟨h, hz⟩)

end Cert.Proof.Loc

end
-- ==== Proof.Sums.lean ====
/-
  The host's running sum down the middle axis of a three-dimensional table, and the two sums over the experts that turn
  it into locations: a running sum of one-hot rows counts hits, and a sum weighted by a one-hot row picks one entry.
-/
module

public import proofs.«01_k».proof.Proof.Places
public import Idealize.ShloMosaic.Lib.Routing.OpsOne

@[expose] public section

namespace Cert.Proof.Walk

open Idealize.ShloMosaic Idealize.ShloMosaic.ValueIdx Idealize.ShloMosaic.Routing

/-- A one-high, one-deep window of height `M` has the coordinates `(0, n, 0)` at position `n`. -/
theorem window_at {M : ℕ} (n : Fin (⟨3, ![1, M, 1]⟩ : Shape).numel) :
    ((⟨3, ![1, M, 1]⟩ : Shape).rowMajor.symm n 0).val = 0 ∧ ((⟨3, ![1, M, 1]⟩ : Shape).rowMajor.symm n 1).val = n.val
      ∧ ((⟨3, ![1, M, 1]⟩ : Shape).rowMajor.symm n 2).val = 0 := by
  have e := Shape.rowMajor_val_three ((⟨3, ![1, M, 1]⟩ : Shape).rowMajor.symm n)
  rw [Equiv.apply_symm_apply] at e
  have h0 : ((⟨3, ![1, M, 1]⟩ : Shape).rowMajor.symm n 0).val < 1 := Fin.isLt _
  have h2 : ((⟨3, ![1, M, 1]⟩ : Shape).rowMajor.symm n 2).val < 1 := Fin.isLt _
  change n.val = (_ * M + _) * 1 + _ at e
  have z0 : ((⟨3, ![1, M, 1]⟩ : Shape).rowMajor.symm n 0).val = 0 := by omega
  rw [z0] at e
  exact ⟨z0, by omega, by omega⟩

theorem window_numel (M : ℕ) : (⟨3, ![1, M, 1]⟩ : Shape).numel = M := by
  simp [Shape.numel, Fin.prod_univ_succ]

/-- **The running sum down the middle axis.** Where slab `a` and layer `c` of `x` hold the naturals `f`, the entry at
    height `j` of the running sum holds `f 0 + … + f j`. -/
theorem cumsum_mid {A R C m : ℕ} (hR : m + 1 = R) (x : IVec ⟨3, ![A, R, C]⟩ 32) (init : IVec ⟨0, ![]⟩ 32) (hu : 0 < (⟨0, ![]⟩ : Shape).numel)
    (hi : init (Shape.Idx.first hu) = 0#32)
    (h : (⟨3, ![A, R, C]⟩ : Shape).ReduceWindows (![1, R, 1] : Fin 3 → ℕ) ![1, 1, 1] ![0, m, 0] ![0, 0, 0] ⟨3, ![A, R, C]⟩)
    (a : Fin A) (c : Fin C) (f : ℕ → ℕ) (hx : ∀ i : Fin R, x (ix3 a i c) = BitVec.ofNat 32 (f i.val)) (j : Fin R) :
    Host.reduceWindow IntOp.addi ![1, R, 1] ![1, 1, 1] ![0, m, 0] ![0, 0, 0] x init h hu (ix3 a j c)
      = BitVec.ofNat 32 ((List.range (j.val + 1)).map f).sum := by
  subst hR
  have hj := j.isLt
  unfold Host.reduceWindow
  refine (foldl_addi_ofNat _ _ (fun n => if m ≤ j.val + n.val then f (j.val + n.val - m) else 0) (fun n _ => ?_) _ 0 hi).trans ?_
  · obtain ⟨w0, w1, w2⟩ := window_at n
    have hn : n.val < m + 1 := lt_of_lt_of_eq n.isLt (window_numel (m + 1))
    have p0 : (a.val * 1 + ((⟨3, ![1, m + 1, 1]⟩ : Shape).rowMajor.symm n 0).val) - 0 = a.val := by rw [w0]; omega
    have p1 : (j.val * 1 + ((⟨3, ![1, m + 1, 1]⟩ : Shape).rowMajor.symm n 1).val) = j.val + n.val := by rw [w1]; omega
    have p2 : (c.val * 1 + ((⟨3, ![1, m + 1, 1]⟩ : Shape).rowMajor.symm n 2).val) - 0 = c.val := by rw [w2]; omega
    dsimp only
    by_cases hle : m ≤ j.val + n.val
    · refine (dif_pos fun b => ?_).trans ?_
      · match b with
        | ⟨0, _⟩ => exact ⟨Nat.zero_le _, lt_of_eq_of_lt p0 a.isLt⟩
        | ⟨1, _⟩ => exact ⟨le_of_le_of_eq hle p1.symm, lt_of_eq_of_lt (congrArg (· - m) p1) (by show j.val + n.val - m < m + 1; omega)⟩
        | ⟨2, _⟩ => exact ⟨Nat.zero_le _, lt_of_eq_of_lt p2 c.isLt⟩
      · rw [if_pos hle]
        refine (congrArg x (funext fun b => Fin.ext ?_)).trans (hx ⟨j.val + n.val - m, by omega⟩)
        match b with
        | ⟨0, _⟩ => exact p0
        | ⟨1, _⟩ => exact congrArg (· - m) p1
        | ⟨2, _⟩ => exact p2
    · refine (dif_neg fun hin => hle (le_of_le_of_eq (hin 1).1 p1)).trans ?_
      rw [if_neg hle]
      exact hi
  · rw [Nat.zero_add, map_finRange_val _ (fun w => if m ≤ j.val + w then f (j.val + w - m) else 0)]
    rw [window_numel, sum_window f m j.val (by omega)]

/-- A running sum of one-hot rows counts hits. -/
theorem sum_hot (ids : ℕ → ℕ) (e n : ℕ) : ((List.range n).map fun i => if ids i = e then 1 else 0).sum = hits ids n e := by
  induction n with
  | zero => rfl
  | succ n ih => rw [List.range_succ, List.map_append, List.sum_append, ih, hits_succ]; simp

/-- A one-hot bit as a word. -/
theorem hot_word (v : BitVec 32) {e : ℕ} (he : e < 64) :
    (IntOp.cmpi .eq v (BitVec.ofNat 32 e)).setWidth 32 = BitVec.ofNat 32 (if v.toNat = e then 1 else 0) := by
  have key : v = BitVec.ofNat 32 e ↔ v.toNat = e := by
    rw [← BitVec.toNat_inj, BitVec.toNat_ofNat, Nat.mod_eq_of_lt (by omega)]
  by_cases h : v.toNat = e
  · rw [if_pos h, key.2 h]; simp [IntOp.cmpi]
  · rw [if_neg h]
    show (BitVec.ofBool (v == BitVec.ofNat 32 e)).setWidth 32 = 0#32
    rw [beq_false_of_ne fun q => h (key.1 q)]; rfl

/-- A sum of words weighted by a one-hot row is the word at the hot entry. -/
theorem fold_hot (x : Fin 64 → BitVec 32) (g : Fin 64 → BitVec 32) {q : ℕ} (hq : q < 64)
    (hx : ∀ e : Fin 64, x e = IntOp.muli (g e) (BitVec.ofNat 32 (if q = e.val then 1 else 0))) :
    (Finset.univ : Finset (Fin 64)).fold IntOp.addi 0#32 x = g ⟨q, hq⟩ := by
  have sum : ∀ S : Finset (Fin 64), S.fold IntOp.addi 0#32 x = ∑ e ∈ S, x e := fun S => by
    induction S using Finset.cons_induction with
    | empty => rfl
    | cons a S ha ih => rw [Finset.fold_cons, Finset.sum_cons, ih]; rfl
  rw [sum, Finset.sum_eq_single ⟨q, hq⟩]
  · rw [hx, if_pos rfl]; exact BitVec.mul_one _
  · intro e _ hne
    rw [hx, if_neg fun h => hne (Fin.ext h.symm)]; exact BitVec.mul_zero
  · exact fun h => absurd (Finset.mem_univ _) h

/-- The start plus a token's own running count, less one, is its rank. -/
theorem rank_of_next (p : ℕ → BitVec 32) (ids : ℕ → ℕ) (q : ℕ) :
    IntOp.subi (IntOp.addi (p (ids q)) (BitVec.ofNat 32 (hits ids (q + 1) (ids q)))) 1#32 = rank p ids q := by
  show p (ids q) + BitVec.ofNat 32 (hits ids (q + 1) (ids q)) - 1#32 = p (ids q) + BitVec.ofNat 32 (hits ids q (ids q))
  rw [hits_succ, if_pos rfl, BitVec.ofNat_add, ← add_assoc]
  exact add_sub_cancel_right _ _

end Cert.Proof.Walk
-- ==== Proof.LocReference.lean ====
/-
  The reference of the locations, read at a token: the same number the SparseCore call leaves there.
-/
module

public import proofs.«01_k».proof.Proof.Sums
public import proofs.«01_k».proof.Proof.Gen.LocationsReference.Run
public import Idealize.ShloMosaic.Lib.Pipeline.Value

@[expose] public section

namespace Cert.Proof.Loc

open Idealize.ShloMosaic Idealize.ShloMosaic.ValueIdx Cert.LocationsReference Cert.LocationsReference.Gen

/-- The reference's one-hot table, one slab for each chunk. -/
def hot (i : IVec S8192x1 32) : IVec S32x256x64 32 :=
  shapeCast _ (extui 32 (cmpi .eq (broadcastInDim S8192x64 ![0, 1] bcast_S8192x1_S8192x64_0_1
    (broadcastInDim S8192x1 ![0] bcast_S8192_S8192x1_0 (shapeCast _ i shapeCasts_S8192x1_S8192)))
    (broadcastInDim S8192x64 ![0, 1] bcast_S1x64_S8192x64_0_1 (iotaInDim S1x64 32 1))) natLt_1_32) shapeCasts_S8192x64_S32x256x64

/-- The counters plus the running count, less one. -/
def next (i : IVec S8192x1 32) (p : IVec S8x4x64 32) : IVec S32x256x64 32 :=
  subi (addi (broadcastInDim S32x256x64 ![0, 1, 2] bcast_S32x1x64_S32x256x64_0_1_2 (shapeCast _ p shapeCasts_S8x4x64_S32x1x64))
    (Host.reduceWindow IntOp.addi ![1, 256, 1] ![1, 1, 1] ![0, 255, 0] ![0, 0, 0] (hot i)
      (broadcastInDim S_ ![] bcast_S_S_ (constantI S_ 32 0#32)) reduceWindows_S32x256x64_S32x256x64_w1s1p0_0_w256s1p255_0_w1s1p0_0 h_S_))
    (broadcastInDim S32x256x64 ![] bcast_S_S32x256x64 (constantI S_ 32 1#32))

/-- The reference's result. -/
def result (i : IVec S8192x1 32) (p : IVec S8x4x64 32) : IVec S8192 32 :=
  shapeCast _ (Host.reduce IntOp.addi (muli (next i p) (hot i)) (constantI S_ 32 0#32) reducesTo_S32x256x64_S32x256_d2 h_S_) shapeCasts_S32x256_S8192

theorem hot_at (i : IVec S8192x1 32) (w : Fin 32) (q : Fin 256) (e : Fin 64) :
    hot i (ix3 w q e) = BitVec.ofNat 32 (if Walk.idsOf (shapeCast S8192 i shapeCasts_S8192x1_S8192) w.val q.val = e.val then 1 else 0) := by
  have ht : 256 * w.val + q.val < 8192 := by omega
  unfold hot
  refine (shapeCast_apply _ _ _ (ix2 (⟨256 * w.val + q.val, ht⟩ : Fin 8192) e) ?_).trans ?_
  · rw [Shape.rowMajor_val_two, Shape.rowMajor_val_three]
    show (256 * w.val + q.val) * 64 + e.val = (w.val * 256 + q.val) * 64 + e.val
    omega
  · rw [Walk.idsOf_eq _ (x := ix1 (⟨256 * w.val + q.val, ht⟩ : Fin 8192)) rfl]
    exact Walk.hot_word _ e.isLt

theorem next_at (i : IVec S8192x1 32) (p : IVec S8x4x64 32) (w : Fin 32) (q : Fin 256) (e : Fin 64) :
    next i p (ix3 w q e)
      = IntOp.subi (IntOp.addi (Walk.startOf (shapeCast ⟨2, ![32, 64]⟩ p (by decide)) w.val e.val)
          (BitVec.ofNat 32 (Walk.hits (Walk.idsOf (shapeCast S8192 i shapeCasts_S8192x1_S8192) w.val) (q.val + 1) e.val))) 1#32 := by
  rw [Walk.startOf_eq _ (x := ix2 w e) rfl rfl, ← Walk.sum_hot]
  rw [← Walk.cumsum_mid (m := 255) rfl (hot i) (broadcastInDim S_ ![] bcast_S_S_ (constantI S_ 32 0#32)) h_S_ rfl
    reduceWindows_S32x256x64_S32x256x64_w1s1p0_0_w256s1p255_0_w1s1p0_0 w e _ (fun j => hot_at i w j e) q]
  refine congrArg (fun v => IntOp.subi (IntOp.addi v _) 1#32) ?_
  refine (shapeCast_apply _ _ _ ((Shape.reshapeEquiv (by decide : S8x4x64.ShapeCasts ⟨2, ![32, 64]⟩)) (ix2 w e)) ?_)
  rw [Shape.rowMajor_reshapeEquiv, Shape.rowMajor_val_two, Shape.rowMajor_val_three]
  show w.val * 64 + e.val = (w.val * 1 + 0) * 64 + e.val
  omega

/-- The sum over the experts at token `q` of chunk `w`. -/
theorem sum_at (i : IVec S8192x1 32) (p : IVec S8x4x64 32) (hi : ∀ x, (shapeCast S8192 i shapeCasts_S8192x1_S8192 x).toNat < 64) (w : Fin 32) (q : Fin 256) :
    Host.reduce IntOp.addi (muli (next i p) (hot i)) (constantI S_ 32 0#32) reducesTo_S32x256x64_S32x256_d2 h_S_ (ix2 w q)
      = Walk.rank (Walk.startOf (shapeCast ⟨2, ![32, 64]⟩ p (by decide)) w.val) (Walk.idsOf (shapeCast S8192 i shapeCasts_S8192x1_S8192) w.val) q.val := by
  haveI : Std.Commutative (IntOp.addi (w := 32)) := ⟨fun a b => BitVec.add_comm a b⟩
  haveI : Std.Associative (IntOp.addi (w := 32)) := ⟨fun a b c => BitVec.add_assoc a b c⟩
  have he := Walk.idsOf_lt hi w.val q.val
  have hn := next_at i p w q
  have hh := fun e => hot_at i w q e
  generalize Walk.startOf (shapeCast ⟨2, ![32, 64]⟩ p (by decide)) w.val = start at hn ⊢
  generalize Walk.idsOf (shapeCast S8192 i shapeCasts_S8192x1_S8192) w.val = ids at hn hh he ⊢
  refine (Host.reduce_eq_fold_single IntOp.addi _ _ reducesTo_S32x256x64_S32x256_d2 (by decide) h_S_ _).trans ?_
  refine (Walk.fold_hot _ (fun e => next i p (ix3 w q e)) he fun e => ?_).trans ?_
  · refine Eq.trans (congrArg (muli (next i p) (hot i)) (a₂ := ix3 w q e) ?_) ?_
    · funext a
      match a with
      | ⟨0, _⟩ => rfl
      | ⟨1, _⟩ => rfl
      | ⟨2, _⟩ => rfl
    · exact congrArg (IntOp.muli _) (hh e)
  · exact (hn ⟨_, he⟩).trans (Walk.rank_of_next start ids q.val)

/-- **The reference's result at every token.** -/
theorem result_eq (i : IVec S8192x1 32) (p : IVec S8x4x64 32) (hi : ∀ x, (shapeCast S8192 i shapeCasts_S8192x1_S8192 x).toNat < 64) :
    result i p = Walk.places (shapeCast S8192 i shapeCasts_S8192x1_S8192) (shapeCast ⟨2, ![32, 64]⟩ p (by decide)) := by
  funext x
  have hx : (x 0).val < 8192 := (x 0).isLt
  have hw : (x 0).val / 256 < 32 := by omega
  have hq : (x 0).val % 256 < 256 := by omega
  refine (shapeCast_apply _ _ _ (ix2 (⟨_, hw⟩ : Fin 32) (⟨_, hq⟩ : Fin 256)) ?_).trans (sum_at i p hi _ _)
  rw [Shape.rowMajor_val_two, Shape.rowMajor_val_one]
  show (x 0).val / 256 * 256 + (x 0).val % 256 = (x 0).val
  omega

end Cert.Proof.Loc
-- ==== Proof.LocClaims.lean ====
/-
  The claims about the SparseCore call: it leaves its operands as they were and ends quiescent, so does its reference,
  and the two leave the same locations.
-/
module

public import proofs.«01_k».proof.Proof.LocRun
public import proofs.«01_k».proof.Proof.LocReference
public import proofs.«01_k».proof.Proof.Gen.Pre_in_range
public import proofs.«01_k».proof.Defs
public import Idealize.ShloMosaic.Lib.WordArith

@[expose] public section

noncomputable section

namespace Cert.Proof.Loc

open Idealize.ShloMosaic Idealize.SL.Sem

theorem small_of_bits (v : BitVec 32) (h : IntOp.andi (IntOp.cmpi .sge v 0#32) (IntOp.cmpi .slt v 64#32) = 1#1) : v.toNat < 64 := by
  simp only [IntOp.cmpi, WordArith.andi_ofBool, WordArith.ofBool_eq_one_iff, Bool.and_eq_true, BitVec.sle_eq_decide, BitVec.slt_eq_decide, decide_eq_true_eq,
    BitVec.toInt_eq_toNat_cond, BitVec.toNat_ofNat, Nat.reducePow, Nat.reduceMod] at h
  have := v.isLt
  omega

theorem small_of_pre {i : IVec Cert.Pre_in_range.S8192x1 32} {p : IVec Cert.Pre_in_range.S8x4x64 32}
    (h : Cert.Pre_in_range.fn (F := Bits) i p = fun _ => 1#1) (x : Cert.Pre_in_range.S8192x1.Idx) : (i x).toNat < 64 :=
  small_of_bits _ (congrFun h x)

theorem inRange_of_pre {m : (ℓ : Loc Cert.Locations.nD Cert.Locations.τ Cert.Locations.sig) → Buf (Elt Bits) ℓ} (h : Cert.Pre_Locations m) : InRange (fi m) :=
  fun d _ => small_of_pre (h d) _

theorem quiescent : Cert.quiescent_Locations := fun m g h =>
  (θ_run _ _ _).mono (fun _ q => ⟨fun c => ⟨(q.1 c).1, (q.1 c).2.1⟩, q.2⟩) (run_main m g (inRange_of_pre h))

theorem reference_quiescent : Cert.quiescent_LocationsReference := fun m g _ =>
  (θ_run _ _ _).mono (fun r q => ⟨fun c => (q c).2, Idealize.ShloMosaic.sem_eq_zero_of_no_sems (by decide) r.2⟩)
    (Cert.LocationsReference.Value.run (F := Bits) m g)

theorem bitexact : Cert.bitexact_Locations_LocationsReference := by
  intro m g m' g' h hm
  refine ⟨fun c => out (fi m) (fp m) c, ?_, ?_⟩
  · exact (θ_run _ _ _).mono (fun _ q c => ⟨(q.1 c).2.2, (q.1 c).1, (q.1 c).2.1⟩) (run_main m g (inRange_of_pre h))
  · refine (θ_run _ _ _).mono (fun r q c => ⟨(q c).1.trans ?_, (q c).2⟩) (Cert.LocationsReference.Value.run (F := Bits) m' g')
    rw [(hm c).1, (hm c).2]
    exact result_eq _ _ (fun x => inRange_of_pre h c x)

end Cert.Proof.Loc

end
-- ==== Proof.Choice.lean ====
/-
  A token's row of logits over the extended reals: its greatest logit, the first expert that has it, the exponentials'
  sum, the gate and the probabilities; and how a fold of minima and a fold of pairs find that expert.
-/
module

public import Idealize.ShloMosaic.PureOps.Ideal.Laws
public import Idealize.ShloMosaic.Lib.ValueIdx
public import Idealize.ShloMosaic.Lib.WordArith

@[expose] public section

noncomputable section

namespace Cert.Proof.Choice

open Idealize.ShloMosaic Idealize.ShloMosaic.ValueIdx

/-- A token's logits. -/
abbrev Row := Fin 64 → EReal

/-- The logits of token `t`. -/
def row {n : ℕ} (x : (⟨2, ![n, 4096]⟩ : Shape).Idx → EReal) (w : (⟨2, ![64, 4096]⟩ : Shape).Idx → EReal) (t : Fin n) : Row :=
  fun e => ∑ k : Fin 4096, x (ix2 t k) * w (ix2 e k)

/-- The greatest logit. -/
def top (f : Row) : EReal := (Finset.univ : Finset (Fin 64)).fold max ⊥ f

theorem le_top (f : Row) (e : Fin 64) : f e ≤ top f := Finset.le_sup (f := f) (Finset.mem_univ e)

theorem attained (f : Row) : ((Finset.univ : Finset (Fin 64)).filter fun e => f e = top f).Nonempty := by
  obtain ⟨e, -, h⟩ := Finset.exists_mem_eq_sup (Finset.univ : Finset (Fin 64)) ⟨0, Finset.mem_univ _⟩ f
  exact ⟨e, Finset.mem_filter.2 ⟨Finset.mem_univ _, h.symm⟩⟩

/-- The first expert with the greatest logit. -/
def arg (f : Row) : Fin 64 := ((Finset.univ : Finset (Fin 64)).filter fun e => f e = top f).min' (attained f)

theorem at_arg (f : Row) : f (arg f) = top f := (Finset.mem_filter.1 (Finset.min'_mem _ (attained f))).2

theorem arg_le (f : Row) {e : Fin 64} (h : f e = top f) : arg f ≤ e :=
  Finset.min'_le ((Finset.univ : Finset (Fin 64)).filter fun e => f e = top f) e (Finset.mem_filter.2 ⟨Finset.mem_univ e, h⟩)

/-- The exponentials of the logits less the greatest, -/
def ex (f : Row) : Row := fun e => Ideal.exp (f e - top f)
/-- their sum, -/
def den (f : Row) : EReal := ∑ e, ex f e
/-- the token's gate, -/
def gate (f : Row) : EReal := Ideal.div 1 (den f)
/-- and its probabilities. -/
def prob (f : Row) : Row := fun e => Ideal.div (ex f e) (den f)

/-! ## Finite logits -/

/-- Neither infinity. -/
def Finite (x : EReal) : Prop := ∃ r : ℝ, x = r

theorem Finite.of_ne {x : EReal} (h : x ≠ ⊥) (h' : x ≠ ⊤) : Finite x := ⟨x.toReal, (EReal.coe_toReal h' h).symm⟩

theorem finite_sum {ι : Type} (s : Finset ι) (f : ι → EReal) (h : ∀ i ∈ s, Finite (f i)) : Finite (∑ i ∈ s, f i) :=
  Finset.sum_induction f Finite (fun _ _ ⟨a, ha⟩ ⟨b, hb⟩ => ⟨a + b, by rw [ha, hb, EReal.coe_add]⟩) ⟨0, rfl⟩ h

theorem finite_row {n : ℕ} {x : (⟨2, ![n, 4096]⟩ : Shape).Idx → EReal} {w : (⟨2, ![64, 4096]⟩ : Shape).Idx → EReal}
    (hx : ∀ i, Finite (x i)) (hw : ∀ i, Finite (w i)) (t : Fin n) (e : Fin 64) : Finite (row x w t e) :=
  finite_sum _ _ fun k _ => by
    obtain ⟨a, ha⟩ := hx (ix2 t k)
    obtain ⟨b, hb⟩ := hw (ix2 e k)
    exact ⟨a * b, by rw [ha, hb, EReal.coe_mul]⟩

/-- At the chosen expert the exponential is one. -/
theorem ex_arg {f : Row} (h : ∀ e, Finite (f e)) : ex f (arg f) = 1 := by
  unfold ex
  rw [at_arg f]
  obtain ⟨r, hr⟩ := h (arg f)
  rw [← at_arg f, hr, ← EReal.coe_sub, sub_self, Ideal.exp_coe, Real.exp_zero, EReal.coe_one]

/-- So the probability the one-hot row picks is the gate. -/
theorem pick_prob {f : Row} (h : ∀ e, Finite (f e)) :
    ∑ e, prob f e * (((if arg f = e then 1 else 0 : ℝ)) : EReal) = gate f := by
  rw [Finset.sum_eq_single (arg f)]
  · rw [if_pos rfl, EReal.coe_one, mul_one]; unfold prob gate; rw [ex_arg h]
  · intro e _ hne
    rw [if_neg hne.symm, EReal.coe_zero, mul_zero]
  · exact fun h => absurd (Finset.mem_univ _) h

/-! ## A fold of minima -/

theorem minsi_ofNat {a b : ℕ} (ha : a < 2 ^ 31) (hb : b < 2 ^ 31) :
    IntOp.minsi (BitVec.ofNat 32 a) (BitVec.ofNat 32 b) = BitVec.ofNat 32 (min a b) := by
  have ta : (BitVec.ofNat 32 a).toInt = a := by rw [BitVec.toInt_eq_toNat_of_lt] <;> rw [BitVec.toNat_ofNat, Nat.mod_eq_of_lt (by omega)]; omega
  have tb : (BitVec.ofNat 32 b).toInt = b := by rw [BitVec.toInt_eq_toNat_of_lt] <;> rw [BitVec.toNat_ofNat, Nat.mod_eq_of_lt (by omega)]; omega
  unfold IntOp.minsi
  rw [BitVec.slt_eq_decide, ta, tb]
  by_cases h : a < b
  · rw [min_eq_left h.le]; simp [h]
  · rw [min_eq_right (not_lt.1 h)]; simp [h]

theorem fold_minsi (s : Finset (Fin 64)) (g : Fin 64 → ℕ) (hg : ∀ e, g e < 2 ^ 31) :
    s.fold IntOp.minsi 2147483647#32 (fun e => BitVec.ofNat 32 (g e)) = BitVec.ofNat 32 (s.fold min 2147483647 g)
      ∧ s.fold min 2147483647 g < 2 ^ 31 := by
  induction s using Finset.cons_induction with
  | empty => exact ⟨rfl, by rw [Finset.fold_empty]; decide⟩
  | cons a s ha ih =>
    rw [Finset.fold_cons, Finset.fold_cons, ih.1, minsi_ofNat (hg a) ih.2]
    exact ⟨rfl, lt_of_le_of_lt (min_le_left _ _) (hg a)⟩

/-- The least of the experts with the greatest logit, the others counted as 64. -/
theorem fold_arg (f : Row) (x : Fin 64 → BitVec 32) (hx : ∀ e, x e = BitVec.ofNat 32 (if f e = top f then e.val else 64)) :
    (Finset.univ : Finset (Fin 64)).fold IntOp.minsi 2147483647#32 x = BitVec.ofNat 32 (arg f).val := by
  rw [show x = fun e => BitVec.ofNat 32 (if f e = top f then e.val else 64) from funext hx,
    (fold_minsi _ (fun e => if f e = top f then e.val else 64) fun e => by split <;> omega).1]
  refine congrArg _ (le_antisymm ?_ ?_)
  · exact Finset.fold_min_le (b := 2147483647) (arg f).val |>.2 (Or.inr ⟨arg f, Finset.mem_univ _, by rw [if_pos (at_arg f)]⟩)
  · refine Finset.le_fold_min (arg f).val |>.2 ⟨by omega, fun e _ => ?_⟩
    split
    · rename_i h; exact arg_le f h
    · omega

/-! ## A fold of pairs -/

/-- A pair is better than another: a greater value, or the same at a smaller index. -/
def Better (a b : EReal × BitVec 32) : Prop := b.1 < a.1 ∨ a.1 = b.1 ∧ a.2.toNat < b.2.toNat

open Classical in
/-- Where each step keeps the better of two pairs, the fold ends at a pair of the list that none is better than. -/
theorem fold_best (red : EReal × BitVec 32 → EReal × BitVec 32 → EReal × BitVec 32)
    (hred : ∀ a b, a.2.toNat < 64 → b.2.toNat < 64 → red a b = if Better a b then a else b) :
    ∀ (L : List (EReal × BitVec 32)) (r : EReal × BitVec 32), (∀ p ∈ r :: L, p.2.toNat < 64) →
      L.foldl red r ∈ r :: L ∧ ∀ p ∈ r :: L, ¬ Better p (L.foldl red r)
  | [], r, _ => ⟨List.mem_cons_self, fun p hp => by
      obtain rfl := List.mem_singleton.1 hp
      rintro (h | h)
      · exact lt_irrefl _ h
      · exact lt_irrefl _ h.2⟩
  | b :: L, r, h => by
      have hr := h r List.mem_cons_self
      have hb := h b (List.mem_cons_of_mem _ List.mem_cons_self)
      have e := hred r b hr hb
      have key : (red r b = r ∨ red r b = b) ∧ ¬ Better r (red r b) ∧ ¬ Better b (red r b) := by
        rw [e]
        have irr : ∀ p, ¬ Better p p := by
          rintro p (h | h)
          · exact lt_irrefl _ h
          · exact lt_irrefl _ h.2
        split
        · rename_i hbt
          refine ⟨Or.inl rfl, irr _, ?_⟩
          rintro (h | h) <;> rcases hbt with h' | h'
          · exact lt_asymm h h'
          · exact lt_irrefl _ (h'.1 ▸ h)
          · exact lt_irrefl _ (h.1 ▸ h')
          · exact lt_asymm h.2 h'.2
        · rename_i hbt
          exact ⟨Or.inr rfl, hbt, irr _⟩
      have ih := fold_best red hred L (red r b) (fun p hp => by
        rcases List.mem_cons.1 hp with rfl | hp
        · rcases key.1 with q | q <;> rw [q] <;> assumption
        · exact h p (List.mem_cons_of_mem _ (List.mem_cons_of_mem _ hp)))
      have trans : ∀ p q s : EReal × BitVec 32, ¬ Better p q → ¬ Better q s → ¬ Better p s := by
        intro p q s h1 h2 h3
        unfold Better at h1 h2 h3
        rw [not_or, not_lt, not_and, not_lt] at h1 h2
        rcases h3 with h3 | ⟨h3, h4⟩
        · exact absurd (h1.1.trans h2.1) (not_le.2 h3)
        · have e1 : p.1 = q.1 := le_antisymm h1.1 (h2.1.trans h3.symm.le)
          have := h1.2 e1
          have := h2.2 (e1.symm.trans h3)
          omega
      rw [List.foldl_cons]
      refine ⟨?_, fun p hp => ?_⟩
      · rcases List.mem_cons.1 ih.1 with q | q
        · rw [q]
          rcases key.1 with q | q <;> rw [q]
          · exact List.mem_cons_self
          · exact List.mem_cons_of_mem _ List.mem_cons_self
        · exact List.mem_cons_of_mem _ (List.mem_cons_of_mem _ q)
      · have hl := ih.2 _ List.mem_cons_self
        rcases List.mem_cons.1 hp with rfl | hp
        · exact trans _ _ _ key.2.1 hl
        · rcases List.mem_cons.1 hp with rfl | hp
          · exact trans _ _ _ key.2.2 hl
          · exact ih.2 p (List.mem_cons_of_mem _ hp)

open Classical in
/-- So over a list of the row's pairs, from the bottom at index zero, it ends at the chosen expert. -/
theorem fold_pairs (f : Row) (red : EReal × BitVec 32 → EReal × BitVec 32 → EReal × BitVec 32)
    (hred : ∀ a b, a.2.toNat < 64 → b.2.toNat < 64 → red a b = if Better a b then a else b)
    (L : List (EReal × BitVec 32)) (hL : ∀ p, p ∈ L ↔ ∃ e : Fin 64, p = (f e, BitVec.ofNat 32 e.val)) :
    (L.foldl red (⊥, 0#32)).2 = BitVec.ofNat 32 (arg f).val := by
  have hn : ∀ e : Fin 64, (BitVec.ofNat 32 e.val).toNat = e.val := fun e => by
    rw [BitVec.toNat_ofNat]; exact Nat.mod_eq_of_lt (by omega)
  obtain ⟨hm, hb⟩ := fold_best red hred L (⊥, 0#32) (fun p hp => by
    rcases List.mem_cons.1 hp with rfl | hp
    · decide
    · obtain ⟨e, rfl⟩ := (hL p).1 hp
      exact lt_of_eq_of_lt (hn e) e.isLt)
  generalize L.foldl red (⊥, 0#32) = r at hm hb
  have hbest : ∀ e, ¬ Better (f e, BitVec.ofNat 32 e.val) r := fun e => hb _ (List.mem_cons_of_mem _ ((hL _).2 ⟨e, rfl⟩))
  have ha := hbest (arg f)
  unfold Better at ha
  rw [not_or, not_lt, not_and, not_lt] at ha
  dsimp only at ha
  rw [hn, at_arg f] at ha
  rcases List.mem_cons.1 hm with rfl | hm
  · have ht : top f = ⊥ := le_antisymm ha.1 bot_le
    rw [show arg f = 0 from le_antisymm (arg_le f (le_antisymm (le_top f 0) (ht ▸ bot_le))) (Fin.zero_le _)]
    rfl
  · obtain ⟨e, rfl⟩ := (hL r).1 hm
    dsimp only at ha ⊢
    have ht : f e = top f := le_antisymm (le_top f e) ha.1
    have := ha.2 ht.symm
    rw [hn] at this
    rw [show arg f = e from le_antisymm (arg_le f ht) this]

end Cert.Proof.Choice

end
-- ==== Proof.Finite.lean ====
/-
  What the finite-input precondition says, element by element.
-/
module

public import proofs.«01_k».proof.Proof.Choice
public import proofs.«01_k».proof.Proof.Gen.Pre_finite
public import Idealize.ShloMosaic.Lib.ReduceAll
public import Idealize.ShloMosaic.Lib.Affine
public import Idealize.ShloMosaic.Lib.ValueIdxRank1

@[expose] public section

noncomputable section

namespace Cert.Proof.Finite

open Idealize.ShloMosaic Idealize.ShloMosaic.ValueIdx
open Cert.Proof

/-- The bound's word is infinity. -/
theorem bound : Ideal.ofBits .f32 0x7F800000#32 = (⊤ : EReal) := by simp [Ideal.ofBits, Ideal.ieee]

/-- A number whose absolute value is below infinity is real. -/
theorem of_below {x : EReal} (h : FloatOps.cmpf (F := Ideal) (φ := .f32) .olt (FloatOps.hostAbsf (F := Ideal) (φ := .f32) x) (Ideal.ofBits .f32 0x7F800000#32) = 1#1) :
    Choice.Finite x := by
  have h' : max x (-x) < (⊤ : EReal) := by
    rw [bound] at h
    by_contra hn
    have hd : BitVec.ofBool (decide (max x (-x) < (⊤ : EReal))) = 1#1 := h
    rw [decide_eq_false hn] at hd
    exact absurd hd (by decide)
  refine Choice.Finite.of_ne ?_ ?_
  · rintro rfl; simp at h'
  · rintro rfl; simp at h'

/-- So under the precondition every element of both inputs is real. -/
theorem of_pre {x : FVec Ideal Cert.Pre_finite.S8192x4096 .f32} {w : FVec Ideal Cert.Pre_finite.S64x4096 .f32}
    (h : Cert.Pre_finite.fn (F := Ideal) x w = fun _ => 1#1) : (∀ i, Choice.Finite (x i)) ∧ ∀ i, Choice.Finite (w i) := by
  haveI : Subsingleton Cert.Pre_finite.S_.Idx := ⟨fun a b => funext fun i => i.elim0⟩
  obtain ⟨hx, hw⟩ := IntOp.andi_eq_one.mp (congrFun h ix0)
  exact ⟨fun i => of_below (Host.reduce_andi_all _ _ _ _ _ hx i), fun i => of_below (Host.reduce_andi_all _ _ _ _ _ hw i)⟩

end Cert.Proof.Finite

end
-- ==== Proof.Steps.lean ====
/-
  A load and a store of a whole buffer, as steps between `owns`.
-/
module

public import proofs.«01_k».proof.Proof.Gen.KernelIdeal
public import Idealize.ShloMosaic.Lib.Pipeline.Frame
public import Idealize.ShloMosaic.Lib.Tactic
public import Idealize.ShloMosaic.Lib.VecWindow

@[expose] public section

noncomputable section

namespace Cert.Proof.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} [NeZero nD] {τ : Topo} {sig : RefSig} {Λ : Labels} {Val : EltTy → Type} {Ix U : Type} [DecidableEq Ix] [URA U]

local notation "𝕄" => MT nD τ sig Ix Val ℕ U ℕ

variable (defs : Defs nD τ sig Val Λ) (𝒱 : Variants) (c : Thread nD τ) (bd : Option 𝒱.V)

/-- A load of the whole buffer reads what it holds. -/
theorem wp_load_all {cs : CoreSpace} {s : Shape} {e : EltTy} (m : Memref sig c.2.kind cs s e) {off : Fin s.rank → ℕ}
    (inb : ∀ a, off a + s.size a ≤ s.size a) (hl : m.view.LoadsAt (Rect.unit off s.size inb).toLoadRect)
    (X : s.Idx → Val e) (Q : (s.Idx → Val e) → sProp 𝕄) :
    iprop(owns c m fullShare X ∗ (owns c m fullShare X -∗ Q X))
      ⊢ wp frame (wpE defs 𝒱 c bd) Set.univ (Prog.lift (.load m (Rect.unit off s.size inb).toLoadRect hl)) Q := by
  unfold owns
  iintro ⟨⟨%f, %hf, H⟩, Hk⟩
  have e : m.view.readAt Val (Rect.unit off s.size inb).toLoadRect f = X := by
    rw [← hf]; funext x
    exact congrArg (m.view.read Val f) (Rect.emb_unit_full inb x)
  iapply (wp_load (defs := defs) 𝒱 c bd Set.univ (m := m) (hl := hl) (q := fullShare) (f := f) (S := m.view.set)
    (Finset.map_subset_map.mpr (Finset.subset_univ _))) $$ [H]; · iexact H
  iintro H
  rw [wp_ret, e]; imodintro
  iapply Hk; iexists f; isplitr; · ipureintro; exact hf
  iexact H

/-- A store of the whole buffer leaves it at the stored contents. -/
theorem wp_store_all {cs : CoreSpace} {s : Shape} {e : EltTy} (m : Memref sig c.2.kind cs s e) {off : Fin s.rank → ℕ}
    (inb : ∀ a, off a + s.size a ≤ s.size a) (w : s.Idx → Val e)
    (hx : (m.access (Rect.unit off s.size inb)).Stores Finset.univ) (hm)
    (X : s.Idx → Val e) (Q : PUnit → sProp 𝕄) :
    iprop(owns c m fullShare X ∗ (owns c m fullShare w -∗ Q ⟨⟩))
      ⊢ wp frame (wpE defs 𝒱 c bd) Set.univ (Prog.lift (.store m (Rect.unit off s.size inb) w Finset.univ hx hm)) Q := by
  unfold owns
  iintro ⟨⟨%f, -, H⟩, Hk⟩
  iapply (wp_store (defs := defs) 𝒱 c bd Set.univ (m := m) (r := Rect.unit off s.size inb) (w := w) (hx := hx) (hm := hm) (f := f) (S := m.view.set)
    (View.set_slice_subset _ _)) $$ [H]; · iexact H
  iintro H
  rw [wp_ret]; imodintro
  iapply Hk; iexists _; isplitr
  swap; · iexact H
  ipureintro; funext x
  have hx' : (m.access (Rect.unit off s.size inb)).emb x = m.view.emb x := congrArg m.view.emb (Rect.emb_unit_full inb x)
  rw [View.read_apply, ← hx', View.write_emb_of_mem _ _ (Finset.mem_univ x), cast_cast]; rfl

end Cert.Proof.Steps

end
-- ==== Proof.Router.lean ====
/-
  The router body, run once: from its two input blocks and the counts and probability sums so far, to the experts,
  gates, prefixes and sums it leaves. One text for every grid point: the sums taken up are the zeros the body
  writes at the first point, and the loss is written at the last one.
-/
module

public import proofs.«01_k».proof.Proof.Gen.KernelIdeal.Skeleton
public import proofs.«01_k».proof.Proof.Steps

@[expose] public section

noncomputable section

namespace Cert.Proof.Ker

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Proof.Steps

variable {F : FTy → Type} [FloatOps F]

/-- The body is at the grid's first point. -/
abbrev first (i : grid0.Coords) : Prop :=
  Scalar.cmpi .ne (Scalar.extui (Scalar.cmpi .eq (BitVec.ofNat 32 (i 0).val) 0#32) : BitVec 32) 0#32 = 1#1

variable (x : Vec F S1024x4096 .f32) (w : Vec F S64x4096 .f32) (c0 m0 : Vec F S1x64 .f32)

/-- The prefixes a block leaves, from the counts before it. -/
def prefs : Vec F S1x4x64 .i32 := k0_pay4 (k0_pay16 x w) c0 (k0_pay17 x w c0) (k0_pay18 x w)
/-- The counts after a block. -/
def counts : Vec F S1x64 .f32 := k0_pay5 (k0_pay16 x w) (k0_pay17 x w c0) (k0_pay18 x w)
/-- The sums of probabilities after a block. -/
def probs : Vec F S1x64 .f32 := k0_pay6 (k0_pay12 x w) (k0_pay13 x w) m0
/-- The loss, from the sums of probabilities after the last block and the counts before it. -/
def loss : Vec F S1x1 .f32 := k0_pay7 (k0_pay16 x w) (k0_pay17 x w c0) (k0_pay18 x w) (probs x w m0)

variable {Ix U : Type} [DecidableEq Ix] [URA U]

local notation "𝕄" => MT nD τ sig Ix (Elt F) ℕ U ℕ

variable (D₀ : Defs nD τ sig (Elt F) Λ₀) (𝒱 : Variants) (c : Dev nD) (bd : Option 𝒱.V) (i : grid0.Coords)
variable (arg1 : Memref sig .tc .vmem S1024x4096 .f32) (harg1 : arg1.IsWhole) (arg2 : Memref sig .tc .vmem S64x4096 .f32) (harg2 : arg2.IsWhole)
  (arg3 : Memref sig .tc .vmem S1024x1 .i32) (harg3 : arg3.IsWhole) (arg4 : Memref sig .tc .vmem S1024x1 .f32) (harg4 : arg4.IsWhole)
  (arg5 : Memref sig .tc .vmem S1x4x64 .i32) (harg5 : arg5.IsWhole) (arg6 : Memref sig .tc .vmem S1x1 .f32) (harg6 : arg6.IsWhole)
  (arg7 : Memref sig .tc .vmem S1x64 .f32) (harg7 : arg7.IsWhole) (arg8 : Memref sig .tc .vmem S1x64 .f32) (harg8 : arg8.IsWhole)

/-- The first part: the two inputs read, the experts and gates written, the counts read. -/
theorem part_wp (x3 : Vec F S1024x1 .i32) (x4 : Vec F S1024x1 .f32) (x7 x8 : Vec F S1x64 .f32)
    (Q : _ → sProp 𝕄) :
    iprop(owns (c : Thread nD τ) arg1 fullShare x ∗ owns (c : Thread nD τ) arg2 fullShare w
        ∗ owns (c : Thread nD τ) arg3 fullShare x3 ∗ owns (c : Thread nD τ) arg4 fullShare x4
        ∗ owns (c : Thread nD τ) arg7 fullShare x7 ∗ owns (c : Thread nD τ) arg8 fullShare x8
        ∗ (iprop(owns (c : Thread nD τ) arg1 fullShare x ∗ owns (c : Thread nD τ) arg2 fullShare w
            ∗ owns (c : Thread nD τ) arg3 fullShare (k0_pay15 x w) ∗ owns (c : Thread nD τ) arg4 fullShare (k0_pay14 x w)
            ∗ owns (c : Thread nD τ) arg7 fullShare (if first i then k0_pay8 else x7) ∗ owns (c : Thread nD τ) arg8 fullShare (if first i then k0_pay9 else x8))
          -∗ Q ⟨BitVec.ofNat 32 (i 0).val, k0_pay12 x w, k0_pay13 x w, k0_pay16 x w, (if first i then k0_pay8 else x7),
              k0_pay17 x w (if first i then k0_pay8 else x7), k0_pay18 x w⟩))
      ⊢ wp frame (wpE D₀ 𝒱 c bd) Set.univ
          (k0_part1 (F := F) i arg1 harg1 arg2 harg2 arg3 harg3 arg4 harg4 arg5 harg5 arg6 harg6 arg7 harg7 arg8 harg8) Q := by
  rw [k0_part1_eq_skeleton]; unfold k0_part1_skel
  by_cases h : first i
  · simp only [dif_pos h, if_pos h, wp_bind, wp_pure]
    iintro ⟨H1, H2, H3, H4, H7, H8, Hk⟩
    iapply (wp_load_all D₀ 𝒱 c bd arg7 _ _ x7 _); isplitl [H7]; · iexact H7
    iintro H7
    iapply (wp_store_all D₀ 𝒱 c bd arg7 _ _ _ _ x7 _); isplitl [H7]; · iexact H7
    iintro H7
    iapply (wp_load_all D₀ 𝒱 c bd arg8 _ _ x8 _); isplitl [H8]; · iexact H8
    iintro H8
    iapply (wp_store_all D₀ 𝒱 c bd arg8 _ _ _ _ x8 _); isplitl [H8]; · iexact H8
    iintro H8
    iapply (wp_load_all D₀ 𝒱 c bd arg1 _ _ x _); isplitl [H1]; · iexact H1
    iintro H1
    iapply (wp_load_all D₀ 𝒱 c bd arg2 _ _ w _); isplitl [H2]; · iexact H2
    iintro H2
    iapply (wp_load_all D₀ 𝒱 c bd arg4 _ _ x4 _); isplitl [H4]; · iexact H4
    iintro H4
    iapply (wp_store_all D₀ 𝒱 c bd arg4 _ _ _ _ x4 _); isplitl [H4]; · iexact H4
    iintro H4
    iapply (wp_load_all D₀ 𝒱 c bd arg3 _ _ x3 _); isplitl [H3]; · iexact H3
    iintro H3
    iapply (wp_store_all D₀ 𝒱 c bd arg3 _ _ _ _ x3 _); isplitl [H3]; · iexact H3
    iintro H3
    iapply (wp_load_all D₀ 𝒱 c bd arg7 _ _ _ _); isplitl [H7]; · iexact H7
    iintro H7
    imodintro
    iapply Hk
    iframe
  · simp only [dif_neg h, if_neg h, wp_bind, wp_pure]
    iintro ⟨H1, H2, H3, H4, H7, H8, Hk⟩
    iapply (wp_load_all D₀ 𝒱 c bd arg1 _ _ x _); isplitl [H1]; · iexact H1
    iintro H1
    iapply (wp_load_all D₀ 𝒱 c bd arg2 _ _ w _); isplitl [H2]; · iexact H2
    iintro H2
    iapply (wp_load_all D₀ 𝒱 c bd arg4 _ _ x4 _); isplitl [H4]; · iexact H4
    iintro H4
    iapply (wp_store_all D₀ 𝒱 c bd arg4 _ _ _ _ x4 _); isplitl [H4]; · iexact H4
    iintro H4
    iapply (wp_load_all D₀ 𝒱 c bd arg3 _ _ x3 _); isplitl [H3]; · iexact H3
    iintro H3
    iapply (wp_store_all D₀ 𝒱 c bd arg3 _ _ _ _ x3 _); isplitl [H3]; · iexact H3
    iintro H3
    iapply (wp_load_all D₀ 𝒱 c bd arg7 _ _ x7 _); isplitl [H7]; · iexact H7
    iintro H7
    imodintro
    iapply Hk
    iframe

/-- The body, whole. -/
theorem body_wp (x3 : Vec F S1024x1 .i32) (x4 : Vec F S1024x1 .f32) (x5 : Vec F S1x4x64 .i32) (x6 : Vec F S1x1 .f32)
    (x7 x8 : Vec F S1x64 .f32) (hc : c0 = if first i then k0_pay8 else x7) (hm : m0 = if first i then k0_pay9 else x8)
    (Q : PUnit → sProp 𝕄) :
    iprop(owns (c : Thread nD τ) arg1 fullShare x ∗ owns (c : Thread nD τ) arg2 fullShare w
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (iprop(owns (c : Thread nD τ) arg1 fullShare x ∗ owns (c : Thread nD τ) arg2 fullShare w
            ∗ owns (c : Thread nD τ) arg3 fullShare (k0_pay15 x w) ∗ owns (c : Thread nD τ) arg4 fullShare (k0_pay14 x w)
            ∗ owns (c : Thread nD τ) arg5 fullShare (prefs x w c0)
            ∗ owns (c : Thread nD τ) arg6 fullShare (if k0_cond2 i = 1#1 then loss x w c0 m0 else x6)
            ∗ owns (c : Thread nD τ) arg7 fullShare (counts x w c0) ∗ owns (c : Thread nD τ) arg8 fullShare (probs x w m0))
          -∗ Q ⟨⟩))
      ⊢ wp frame (wpE D₀ 𝒱 c bd) Set.univ
          (cc0__router_body (F := F) i arg1 harg1 arg2 harg2 arg3 harg3 arg4 harg4 arg5 harg5 arg6 harg6 arg7 harg7 arg8 harg8) Q := by
  subst hc hm
  rw [cc0__router_body_eq_skeleton]; unfold cc0__router_body_skel prefs counts loss
  simp only [wp_bind]
  generalize e1 : (if first i then (k0_pay8 (F := F)) else x7) = c0
  generalize e2 : (if first i then (k0_pay9 (F := F)) else x8) = m0
  iintro ⟨H1, H2, H3, H4, H5, H6, H7, H8, Hk⟩
  iapply (part_wp x w D₀ 𝒱 c bd i arg1 harg1 arg2 harg2 arg3 harg3 arg4 harg4 arg5 harg5 arg6 harg6 arg7 harg7 arg8 harg8 x3 x4 x7 x8 _)
  isplitl [H1]; · iexact H1
  isplitl [H2]; · iexact H2
  isplitl [H3]; · iexact H3
  isplitl [H4]; · iexact H4
  isplitl [H7]; · iexact H7
  isplitl [H8]; · iexact H8
  rw [e1, e2]
  iintro ⟨H1, H2, H3, H4, H7, H8⟩
  simp only [wp_bind, wp_pure]
  iapply (wp_load_all D₀ 𝒱 c bd arg5 _ _ x5 _); isplitl [H5]; · iexact H5
  iintro H5
  iapply (wp_store_all D₀ 𝒱 c bd arg5 _ _ _ _ x5 _); isplitl [H5]; · iexact H5
  iintro H5
  iapply (wp_load_all D₀ 𝒱 c bd arg7 _ _ _ _); isplitl [H7]; · iexact H7
  iintro H7
  iapply (wp_store_all D₀ 𝒱 c bd arg7 _ _ _ _ _ _); isplitl [H7]; · iexact H7
  iintro H7
  iapply (wp_load_all D₀ 𝒱 c bd arg8 _ _ _ _); isplitl [H8]; · iexact H8
  iintro H8
  iapply (wp_load_all D₀ 𝒱 c bd arg8 _ _ _ _); isplitl [H8]; · iexact H8
  iintro H8
  iapply (wp_store_all D₀ 𝒱 c bd arg8 _ _ _ _ _ _); isplitl [H8]; · iexact H8
  iintro H8
  by_cases h : k0_cond2 i = 1#1
  · simp only [dif_pos h, if_pos h, wp_bind, wp_pure]
    iapply (wp_load_all D₀ 𝒱 c bd arg8 _ _ _ _); isplitl [H8]; · iexact H8
    iintro H8
    iapply (wp_load_all D₀ 𝒱 c bd arg6 _ _ _ _); isplitl [H6]; · iexact H6
    iintro H6
    iapply (wp_store_all D₀ 𝒱 c bd arg6 _ _ _ _ _ _); isplitl [H6]; · iexact H6
    iintro H6
    imodintro
    iapply Hk
    unfold probs
    iframe
  · simp only [dif_neg h, if_neg h, wp_bind, wp_pure]
    imodintro
    iapply Hk
    unfold probs
    iframe

end Cert.Proof.Ker

end
-- ==== Proof.KerBody.lean ====
/-
  The tile's program of the SparseCore call, in the whole kernel, read as the walk's program (`Walk.tile`).
-/
module

public import proofs.«01_k».proof.Proof.Gen.KernelIdeal.Skeleton
public import proofs.«01_k».proof.Proof.Tile

@[expose] public section

noncomputable section

namespace Cert.Proof.Ker

open Idealize.ShloMosaic Idealize.SL.Sem
open Cert.KernelIdeal Cert.KernelIdeal.Gen

variable {F : FTy → Type} [FloatOps F]

/-- The chunk's sixteen groups. -/
def groups : List Walk.Step := [
  ⟨0, inb_S256_S16_0, k1_chk1, k1_chk1.dec, k1_idx1_inb, k1_idx2_inb, fun _ h => ⟨h, h⟩⟩,
  ⟨16, inb_S256_S16_16, k1_chk2, k1_chk2.dec, k1_idx3_inb, k1_idx4_inb, fun _ h => ⟨h, h⟩⟩,
  ⟨32, inb_S256_S16_32, k1_chk3, k1_chk3.dec, k1_idx5_inb, k1_idx6_inb, fun _ h => ⟨h, h⟩⟩,
  ⟨48, inb_S256_S16_48, k1_chk4, k1_chk4.dec, k1_idx7_inb, k1_idx8_inb, fun _ h => ⟨h, h⟩⟩,
  ⟨64, inb_S256_S16_64, k1_chk5, k1_chk5.dec, k1_idx9_inb, k1_idx10_inb, fun _ h => ⟨h, h⟩⟩,
  ⟨80, inb_S256_S16_80, k1_chk6, k1_chk6.dec, k1_idx11_inb, k1_idx12_inb, fun _ h => ⟨h, h⟩⟩,
  ⟨96, inb_S256_S16_96, k1_chk7, k1_chk7.dec, k1_idx13_inb, k1_idx14_inb, fun _ h => ⟨h, h⟩⟩,
  ⟨112, inb_S256_S16_112, k1_chk8, k1_chk8.dec, k1_idx15_inb, k1_idx16_inb, fun _ h => ⟨h, h⟩⟩,
  ⟨128, inb_S256_S16_128, k1_chk9, k1_chk9.dec, k1_idx17_inb, k1_idx18_inb, fun _ h => ⟨h, h⟩⟩,
  ⟨144, inb_S256_S16_144, k1_chk10, k1_chk10.dec, k1_idx19_inb, k1_idx20_inb, fun _ h => ⟨h, h⟩⟩,
  ⟨160, inb_S256_S16_160, k1_chk11, k1_chk11.dec, k1_idx21_inb, k1_idx22_inb, fun _ h => ⟨h, h⟩⟩,
  ⟨176, inb_S256_S16_176, k1_chk12, k1_chk12.dec, k1_idx23_inb, k1_idx24_inb, fun _ h => ⟨h, h⟩⟩,
  ⟨192, inb_S256_S16_192, k1_chk13, k1_chk13.dec, k1_idx25_inb, k1_idx26_inb, fun _ h => ⟨h, h⟩⟩,
  ⟨208, inb_S256_S16_208, k1_chk14, k1_chk14.dec, k1_idx27_inb, k1_idx28_inb, fun _ h => ⟨h, h⟩⟩,
  ⟨224, inb_S256_S16_224, k1_chk15, k1_chk15.dec, k1_idx29_inb, k1_idx30_inb, fun _ h => ⟨h, h⟩⟩,
  ⟨240, inb_S256_S16_240, k1_chk16, k1_chk16.dec, k1_idx31_inb, k1_idx32_inb, fun _ h => ⟨h, h⟩⟩]

theorem groups_steps : Walk.Steps 0 groups := by
  unfold groups; repeat' constructor
theorem groups_length : groups.length = 16 := rfl

/-- The tile's chunk of the experts, its row of the counters and its part of the result. -/
abbrev iChunk (L : grid1.Coords) : Memref sig .scVector .hbm S256 .i32 :=
  (Memref.whole main_v1_scv : Memref sig .scVector .hbm S8192 .i32).slice (Rect.unit (s := S8192) (k1_off1 L) S256.size (k1_off1_inb L)) (fun _ => rfl)
abbrev pRow (L : grid1.Coords) : Memref sig .scVector .hbm S64 .i32 :=
  ((Memref.whole main_v2_scv : Memref sig .scVector .hbm S32x64 .i32).slice (Rect.unit (s := S32x64) (k1_off2 L) S1x64.size (k1_off2_inb L))
    (fun _ => rfl)).squeeze S64 squeezes_S1x64_S64
abbrev oChunk (L : grid1.Coords) : Memref sig .scVector .hbm S256 .i32 :=
  (Memref.whole main_v3_scv : Memref sig .scVector .hbm S8192 .i32).slice (Rect.unit (s := S8192) (k1_off3 L) S256.size (k1_off3_inb L)) (fun _ => rfl)

set_option maxRecDepth 65536 in
set_option maxHeartbeats 4000000 in
theorem body_eq (L : grid1.Coords) :
    cc1__loc_kernel (F := F) L (Memref.whole main_v1_scv) (Memref.isWhole_whole _) (Memref.whole main_v2_scv) (Memref.isWhole_whole _)
        (Memref.whole main_v3_scv) (Memref.isWhole_whole _) (Memref.whole cc1_scratch0) (Memref.isWhole_whole _)
        (Memref.whole cc1_scratch1) (Memref.isWhole_whole _) (Memref.whole cc1_scratch2) (Memref.isWhole_whole _)
        cc1_scratch3 cc1_scratch4 cc1_scoped0
      = Walk.tile (F := F) (iChunk L) (View.wordExact_bits rfl) (pRow L) ((View.wordExact_bits rfl).reshape _ _) (oChunk L) (View.wordExact_bits rfl)
          (Memref.whole cc1_scratch0) (Memref.isWhole_whole _).wordExact (Memref.whole cc1_scratch1) (Memref.isWhole_whole _).wordExact
          (Memref.whole cc1_scratch2) (Memref.isWhole_whole _).wordExact cc1_scratch3.sem cc1_scratch4.sem cc1_scoped0.sem groups := by
  rfl

end Cert.Proof.Ker

end
-- ==== Proof.KerTile.lean ====
/-
  The launch of the SparseCore call of the whole kernel: what the handshakes carry and the tile's obligation. Tile `(c, s)` is handed
  its chunk of the experts, its row of the table of counters and its part of the result, and hands them back, its part of
  the result at the tokens' locations (`Walk.places`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.KerBody
public import proofs.«01_k».proof.Proof.Places

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The ghost state of the router's pipeline. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-!  The buffers -/

abbrev iLoc (d : Dev nD) : Loc nD τ sig := (SparseCore.T d).loc main_v1
abbrev pLoc (d : Dev nD) : Loc nD τ sig := (SparseCore.T d).loc main_v2
abbrev oLoc (d : Dev nD) : Loc nD τ sig := (SparseCore.T d).loc main_v3

-- The call's operands and the result's contents before it.
variable (fi : (d : Dev nD) → Buf (Elt F) (iLoc d)) (fp : (d : Dev nD) → Buf (Elt F) (pLoc d)) (fo : (d : Dev nD) → Buf (Elt F) (oLoc d))

/-- The result. -/
def out (d : Dev nD) : Buf (Elt F) (oLoc d) := Walk.places (fi d) (fp d)

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- What a tile is handed, and what it hands back. -/
def given (d : Dev nD) (L : grid1.Coords) : sProp 𝕄 :=
  iprop((iLoc d ↦[(iChunk L).view.set]{fullShare} fi d) ∗ (pLoc d ↦[(pRow L).view.set]{fullShare} fp d) ∗ (oLoc d ↦[(oChunk L).view.set]{fullShare} fo d))
def taken (d : Dev nD) (L : grid1.Coords) : sProp 𝕄 := given fi fp (fun d => out fi fp d) d L

instance given_storable (d : Dev nD) (L : grid1.Coords) : BI.Storable (upEmb : UEmb _ 𝕄) (given fi fp fo d L) := by unfold given; infer_instance
instance taken_storable (d : Dev nD) (L : grid1.Coords) : BI.Storable (upEmb : UEmb _ 𝕄) (taken fi fp d L) := by unfold taken; infer_instance

def P : (K (F := F)).Pay (nD := nD) (Val := Elt F) (Name := ℕ) (U := UU) where
  st := fun q d c => match q with | 0 => bigSep Finset.univ fun i : Fin ((K (F := F)).nSub 0) => given fi fp fo d (coordsV c i)
  dn := fun q d c => match q with | 0 => bigSep Finset.univ fun i : Fin ((K (F := F)).nSub 0) => taken fi fp d (coordsV c i)
  go := fun q d c i => match q with | 0 => given fi fp fo d (coordsV c i)
  td := fun q d c i => match q with | 0 => taken fi fp d (coordsV c i)
  x := fun _ _ => iprop(emp)

theorem givens_storable (d : Dev nD) (L : Fin 16 → grid1.Coords) :
    BI.Storable (upEmb : UEmb _ 𝕄) (bigSep Finset.univ fun i : Fin 16 => given fi fp fo d (L i)) := inferInstance
theorem takens_storable (d : Dev nD) (L : Fin 16 → grid1.Coords) :
    BI.Storable (upEmb : UEmb _ 𝕄) (bigSep Finset.univ fun i : Fin 16 => taken fi fp d (L i)) := inferInstance

instance P_storable : (P fi fp fo).IsStorable where
  st q d c := match q with | 0 => givens_storable fi fp fo d fun i => coordsV c i
  dn q d c := match q with | 0 => takens_storable fi fp d fun i => coordsV c i
  go q d c i := match q with | 0 => given_storable fi fp fo d (coordsV c i)
  td q d c i := match q with | 0 => taken_storable fi fp d (coordsV c i)

/-- The experts are lanes of the table. -/
def InRange : Prop := ∀ (d : Dev nD) (x : S8192.Idx), (show BitVec 32 from fi d x).toNat < 64

/-!  The tile -/

section Tile

variable (d : Dev nD) (L : grid1.Coords)

abbrev cV (L : grid1.Coords) : Fin τ.nSC := (L 0).castLE hcore1
abbrev jV (L : grid1.Coords) : Fin τ.nSub := (L 1).castLE hsub1
/-- The chunk's number. -/
abbrev wV (L : grid1.Coords) : ℕ := 2 * (L 1).val + (L 0).val

theorem read_i (x : Walk.V256.Idx) :
    (show BitVec 32 from (iChunk L).view.read (Elt F) (fi d) x).toNat = Walk.idsOf (fi d) (wV L) (x 0).val :=
  (Walk.idsOf_eq (fi d) (w := wV L) (n := (x 0).val) (Walk.chunk_emb (k1_off1_eq L) (k1_off1_inb L) x)).symm
theorem read_p (e : Walk.V64.Idx) : (pRow L).view.read (Elt F) (fp d) e = Walk.startOf (fp d) (wV L) (e 0).val :=
  let h := Walk.row_emb (k1_off2_eq L) (k1_off2_inb L) squeezes_S1x64_S64.numel_eq e
  (Walk.startOf_eq (fp d) h.1 h.2).symm

/-- A tile's part of the result at the ranks is that part of `out`. -/
theorem out_part (f : Buf (Elt F) (oLoc d))
    (h : ∀ x : Walk.V256.Idx, (oChunk L).view.read (Elt F) f x = Walk.rank (Walk.startOf (fp d) (wV L)) (Walk.idsOf (fi d) (wV L)) (x 0).val) :
    (oLoc d ↦[(oChunk L).view.set]{fullShare} f : sProp 𝕄) = oLoc d ↦[(oChunk L).view.set]{fullShare} out fi fp d := by
  refine pointsTo_congr fun y hy => ?_
  obtain ⟨x, -, rfl⟩ := Finset.mem_map.mp hy
  refine (h x).trans (Walk.places_chunk (fi d) (fp d) (x 0).isLt ?_)
  exact Walk.chunk_emb (k1_off3_eq L) (k1_off3_inb L) x

abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scratch4.sem)
abbrev cCcell (d : Dev nD) (c : Fin τ.nSC) (i : Fin τ.nSub) : GSem nD τ sig := (V d c i, .dma cc1_scoped0.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped0.sem : SemLoc sig).isScoped .scVector = true; decide⟩⟩⟩)]

/-- The three scratch buffers are among the tile's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have own (b : Ref sig .scVector) (h) := SparseCore.Cfg.mem_ownRefs_of_owner (p := Proc.scVector (cV L) (jV L)) (b := (Proc.scVector (cV L) (jV L)).devRef b) h
  have ne {a b : Ref sig .scVector} (h : a ≠ b) : (Proc.scVector (cV L) (jV L)).devRef a ≠ (Proc.scVector (cV L) (jV L)).devRef b :=
    fun e => absurd (Proc.devRef_injective _ e) h
  unfold SparseCore.Cfg.ownBufs
  refine (SparseCore.bigSep_erase' (own cc1_scratch0 rfl)).trans ?_
  rw [SparseCore.bigSep_erase' (Finset.mem_erase.mpr ⟨ne (show (cc1_scratch1 : Ref sig .scVector) ≠ cc1_scratch0 by decide), own cc1_scratch1 rfl⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), own cc1_scratch2 rfl⟩⟩)]

variable [FloatOps F]

set_option maxHeartbeats 4000000 in
/-- The task on tile `(L 0, L 1)` of device `d`. -/
theorem tile_body (hF : (K (F := F)).Facts) (hi : InRange fi) (O : CellTallies nD τ sig (HIx 1)) (W : Waits sig (HIx 1)) (hO : ∀ g, O g none = 0) :
    iprop(levAts (K (F := F)).L (K (F := F)).lev ∗ emp ∗ given fi fp fo d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__loc_kernel (F := F) L (Memref.whole main_v1_scv) (Memref.isWhole_whole _) (Memref.whole main_v2_scv) (Memref.isWhole_whole _)
        (Memref.whole main_v3_scv) (Memref.isWhole_whole _) (Memref.whole cc1_scratch0) (Memref.isWhole_whole _)
        (Memref.whole cc1_scratch1) (Memref.isWhole_whole _) (Memref.whole cc1_scratch2) (Memref.isWhole_whole _)
        cc1_scratch3 cc1_scratch4 cc1_scoped0)
          fun _ => iprop(taken fi fp d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq, (K (F := F)).scopedBufs_V hF d (cV L) (jV L), SparseCore.Cfg.scopedSems0_V (Val := Elt F) d (cV L) (jV L), ownSems0_V, ownBufs_V]
  have w0 : (Memref.whole cc1_scratch0 : Memref sig .scVector .vmem S256 .i32).view.set = Finset.univ := View.set_whole _
  have w1 : (Memref.whole cc1_scratch1 : Memref sig .scVector .vmem S64 .i32).view.set = Finset.univ := View.set_whole _
  have w2 : (Memref.whole cc1_scratch2 : Memref sig .scVector .vmem S256 .i32).view.set = Finset.univ := View.set_whole _
  unfold taken given
  iintro ⟨Hlv, -, ⟨Hi, Hp, Ho⟩, ⟨⟨%f5, H5⟩, ⟨%f6, H6⟩, ⟨%f7, H7⟩, Hbufs⟩, ⟨HsA, HsB, HsC, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  iapply (wp_wand frame (wpE (defs₀ (F := F)) 𝒱₀ (V d (cV L) (jV L)) none)) $$ [Hi Hp Ho H5 H6 H7 HsA HsB HsC HO Hmw]
  · iapply (Walk.wp_tile (F := F) (defs := defs₀ (F := F)) 𝒱₀ (V d (cV L) (jV L)) none (iChunk L) (View.wordExact_bits rfl) (pRow L)
      ((View.wordExact_bits rfl).reshape _ _) (oChunk L) (View.wordExact_bits rfl)
      (Memref.whole cc1_scratch0) (Memref.isWhole_whole _).wordExact (Memref.whole cc1_scratch1) (Memref.isWhole_whole _).wordExact
      (Memref.whole cc1_scratch2) (Memref.isWhole_whole _).wordExact cc1_scratch3.sem cc1_scratch4.sem cc1_scoped0.sem groups
      groups_steps groups_length (none : HIx 1) (fi := fi d) (fr := fp d) (fo := fo d) (f5 := f5) (f6 := f6) (f7 := f7)
      (read_i fi d L) (fun n _ => Walk.idsOf_lt (hi d) _ n) (read_p fp d L) O W)
    rw [w0, w1, w2]
    iframe
  iintro %_ ⟨Hi, Hp, ⟨%f, %hf, Ho⟩, H5, H6, H7, HsA, HsB, HsC, HO⟩
  rw [w0, w1, w2]
  isplitl [Hi Hp Ho]
  · isplitl [Hi]; · iexact Hi
    isplitl [Hp]; · iexact Hp
    iapply (Entails.of_eq (out_part fi fp d L f hf)); iexact Ho
  isplitl [H5 H6 H7 Hbufs]
  · isplitl [H5]; · iexact H5
    isplitl [H6]; · iexact H6
    isplitl [H7]; · iexact H7
    iexact Hbufs
  isplitl [HsA HsB HsC Hsems]
  · isplitl [HsA]; · iexact HsA
    isplitl [HsB]; · iexact HsB
    isplitl [HsC]; · iexact HsC
    iexact Hsems
  iexact HO

/-!  The obligation -/

theorem defs₀_vector (c : Fin τ.nSC) (s : Fin τ.nSub) :
    defs₀ (F := F) (.scVector c s) 1 ()
      = SparseCore.onTile hcore1 hsub1 (fun c s => cc1__loc_kernel (F := F) (coordsV c s) (Memref.whole main_v1_scv) (Memref.isWhole_whole _)
          (Memref.whole main_v2_scv) (Memref.isWhole_whole _) (Memref.whole main_v3_scv) (Memref.isWhole_whole _)
          (Memref.whole cc1_scratch0) (Memref.isWhole_whole _) (Memref.whole cc1_scratch1) (Memref.isWhole_whole _)
          (Memref.whole cc1_scratch2) (Memref.isWhole_whole _) cc1_scratch3 cc1_scratch4 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hi : InRange fi) : (K (F := F)).TileObl (D (F := F)) 𝒱 (P fi fp fo) v₀ 0 := by
  intro d c i O W hO _ _
  simp only [show (P fi fp fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi fp fo d (coordsV ⟨_, hci.1⟩ ⟨_, hci.2⟩) facts hi O W hO).trans (wp_mono frame _ _ fun _ => obl_post)

end Tile

end Cert.Proof.Ker

end
-- ==== Proof.KerRegion.lean ====
/-
  The router's pipeline: what its windows hold point by point, the body's obligation, and the pipeline as a region of
  @main, entered while the TensorCore owes the SparseCores their start.
-/
module

public import proofs.«01_k».proof.Proof.Gen.KernelIdeal.Launch
public import proofs.«01_k».proof.Proof.Gen.KernelIdeal.Points
public import proofs.«01_k».proof.Proof.Router
public import proofs.«01_k».proof.Proof.KerTile
public import Idealize.ShloMosaic.Lib.Pipeline.Regions
public import Idealize.ShloMosaic.Lib.Pipeline.FrameBody
public import Idealize.ShloMosaic.Lib.WordCmp

@[expose] public section

set_option maxRecDepth 16384

noncomputable section

namespace Cert.Proof.Ker

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Idealize.ShloMosaic.Tactic
open Cert.KernelIdeal Cert.KernelIdeal.Gen

variable {F : FTy → Type} [FloatOps F]

local notation "𝕄" => MT nD τ sig (HIx 1) (Elt F) ℕ UU ℕ

variable (m : (ℓ : Loc nD τ sig) → Buf (Elt F) ℓ)

/-- The pipeline is entered with the buffers as launched. -/
abbrev V (c : Dev nD) (b : Ref sig .tc) : Buf (Elt F) ((c : Thread nD τ).loc b) := m ((c : Thread nD τ).loc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tokens' block and the weights at a point. -/
abbrev xAt (c : Dev nD) (t : Fin cfg0.N) : Vec F S1024x4096 .f32 := iblk m c 0 t
abbrev wAt (c : Dev nD) (t : Fin cfg0.N) : Vec F S64x4096 .f32 := iblk m c 1 t

/-- The counts before point `n`, -/
def cntAt (c : Dev nD) : ℕ → Vec F S1x64 .f32
  | 0 => k0_pay8
  | n + 1 => if h : n < cfg0.N then counts (xAt m c ⟨n, h⟩) (wAt m c ⟨n, h⟩) (cntAt c n) else k0_pay8
/-- and the sums of probabilities. -/
def sumAt (c : Dev nD) : ℕ → Vec F S1x64 .f32
  | 0 => k0_pay9
  | n + 1 => if h : n < cfg0.N then probs (xAt m c ⟨n, h⟩) (wAt m c ⟨n, h⟩) (sumAt c n) else k0_pay9

theorem cntAt_succ (c : Dev nD) (t : Fin cfg0.N) : cntAt m c (t.val + 1) = counts (xAt m c t) (wAt m c t) (cntAt m c t.val) := by
  rw [cntAt, dif_pos t.isLt]
theorem sumAt_succ (c : Dev nD) (t : Fin cfg0.N) : sumAt m c (t.val + 1) = probs (xAt m c t) (wAt m c t) (sumAt m c t.val) := by
  rw [sumAt, dif_pos t.isLt]

/-- The two scratch buffers carried from point to point. -/
def carried (c : Dev nD) (n : ℕ) : sProp 𝕄 :=
  iprop(∃ x7 x8 : Vec F S1x64 .f32, ⌜n ≠ 0 → x7 = cntAt m c n ∧ x8 = sumAt m c n⌝
    ∗ owns (c : Thread nD τ) (Memref.whole cc0_scratch0 : Memref sig .tc .vmem S1x64 .f32) fullShare x7
    ∗ owns (c : Thread nD τ) (Memref.whole cc0_scratch1 : Memref sig .tc .vmem S1x64 .f32) fullShare x8)

/-- The pipeline's proof data. -/
def dats (_ : Fin 1) (c : Dev nD) : Dat τ (Elt F) (HIx 1) ℕ UU ℕ cfg0 c where
  A w := V m c (Pipeline.arrRef spec0 w)
  after w t := match w with
    | ⟨0, _⟩ => iblk m c 0 t
    | ⟨1, _⟩ => iblk m c 1 t
    | ⟨2, _⟩ => k0_pay15 (xAt m c t) (wAt m c t)
    | ⟨3, _⟩ => k0_pay14 (xAt m c t) (wAt m c t)
    | ⟨4, _⟩ => prefs (xAt m c t) (wAt m c t) (cntAt m c t.val)
    | ⟨5, _⟩ => loss (xAt m c t) (wAt m c t) (cntAt m c t.val) (sumAt m c t.val)
  Φ t := carried m c t.val
  q _ := fullShare
  owed _ := (K (F := F)).Otc c 0
  recorded _ := {p | (K (F := F)).lev ((c : Thread nD τ), p.1) p.2 ≤ 0}

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay15 (xAt m c t) (wAt m c t) := by dsimp only [dats]
theorem after_3 (c : Dev nD) (t : Fin cfg0.N) : (dats m 0 c).after 3 t = k0_pay14 (xAt m c t) (wAt m c t) := by dsimp only [dats]
theorem after_4 (c : Dev nD) (t : Fin cfg0.N) : (dats m 0 c).after 4 t = prefs (xAt m c t) (wAt m c t) (cntAt m c t.val) := by dsimp only [dats]
theorem after_5 (c : Dev nD) (t : Fin cfg0.N) :
    (dats m 0 c).after 5 t = loss (xAt m c t) (wAt m c t) (cntAt m c t.val) (sumAt m c t.val) := by dsimp only [dats]

/-- An input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

theorem first_iff (t : Fin cfg0.N) : first (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    rw [show t.val = 0 ↔ t.val % 8 = 0 by omega]
    simp only [first, e0]
    word_cmp
   : ∀ t : Fin grid0.N, first (grid0.coords t) ↔ t.val = 0) t
theorem last_iff (t : Fin cfg0.N) : k0_cond2 (grid0.coords t) = 1#1 ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [k0_cond2, e0]
    word_cmp
   : ∀ t : Fin grid0.N, k0_cond2 (grid0.coords t) = 1#1 ↔ t.val % 8 = 7) t

theorem idle_5 : ∀ t : Fin cfg0.N, ¬ k0_cond2 (grid0.coords t) = 1#1 → cfg0.idle 5 (grid0.coords t) = true := by decide +kernel
theorem noflush_5 : ∀ t : Fin cfg0.N, ¬ k0_cond2 (grid0.coords t) = 1#1 → (cfg0.win 5).flush t = false := by decide +kernel
theorem live_5 : ∀ t : Fin cfg0.N, k0_cond2 (grid0.coords t) = 1#1 → cfg0.idle 5 (grid0.coords t) = false := by decide +kernel

abbrev ms_0 (t : Fin cfg0.N) : Memref sig .tc .vmem S1024x4096 .f32 := win0_0.stage (cfg0.slots t 0)
abbrev ms_1 (t : Fin cfg0.N) : Memref sig .tc .vmem S64x4096 .f32 := win0_1.stage (cfg0.slots t 1)
abbrev ms_2 (t : Fin cfg0.N) : Memref sig .tc .vmem S1024x1 .i32 := win0_2.stage (cfg0.slots t 2)
abbrev ms_3 (t : Fin cfg0.N) : Memref sig .tc .vmem S1024x1 .f32 := win0_3.stage (cfg0.slots t 3)
abbrev ms_4 (t : Fin cfg0.N) : Memref sig .tc .vmem S1x4x64 .i32 := win0_4.stage (cfg0.slots t 4)
abbrev ms_5 (t : Fin cfg0.N) : Memref sig .tc .vmem S1x1 .f32 := win0_5.stage (cfg0.slots t 5)

/-- What the body is called with at a point, and what it returns. -/
def bodyPre (c : Dev nD) (t : Fin cfg0.N) : sProp 𝕄 :=
  iprop((dats m 0 c).Φ t.castSucc ∗ (dats m 0 c).owesAt (none : HIx 1) t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))
def bodyPost (c : Dev nD) (t : Fin cfg0.N) : sProp 𝕄 :=
  iprop((dats m 0 c).Φ t.succ ∗ (dats m 0 c).owesAt (none : HIx 1) t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The loss's buffer after the body is what the pipeline takes back, at the last point and before it. -/
theorem leaves_5 (c : Dev nD) (t : Fin cfg0.N) (d) :
    owns (c : Thread nD τ) (ms_5 t) fullShare
        (if k0_cond2 (grid0.coords t) = 1#1 then loss (xAt m c t) (wAt m c t) (cntAt m c t.val) (sumAt m c t.val) else (dats m 0 c).before 5 t d)
      ⊢ ((dats m 0 c).leavesExact 5 t : sProp 𝕄) := by
  by_cases h : k0_cond2 (grid0.coords t) = 1#1
  · rw [if_pos h, show (dats m 0 c).leavesExact 5 t = owns (c : Thread nD τ) (ms_5 t) fullShare ((dats m 0 c).after 5 t) from by
      unfold Dat.leavesExact; rw [live_5 t h], after_5]
  · rw [if_neg h, Dat.leavesExact_idle _ 5 t (idle_5 t h) (noflush_5 t h)]
    iintro H; iexists d; iexact H

/-- The body at any point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1]
  rw [show (dats m 0 c).owesAt (none : HIx 1) t.succ = (dats m 0 c).owesAt none t.castSucc from rfl,
    show (dats m 0 c).Φ t.succ = carried m c (t.val + 1) from rfl, show (dats m 0 c).Φ t.castSucc = carried m c t.val from rfl,
    show (dats m 0 c).leavesExact 0 t = owns (c : Thread nD τ) (ms_0 t) fullShare ((dats m 0 c).after 0 t) from rfl, after_0,
    show (dats m 0 c).leavesExact 1 t = owns (c : Thread nD τ) (ms_1 t) fullShare ((dats m 0 c).after 1 t) from rfl, after_1,
    show (dats m 0 c).leavesExact 2 t = owns (c : Thread nD τ) (ms_2 t) fullShare ((dats m 0 c).after 2 t) from rfl, after_2,
    show (dats m 0 c).leavesExact 3 t = owns (c : Thread nD τ) (ms_3 t) fullShare ((dats m 0 c).after 3 t) from rfl, after_3,
    show (dats m 0 c).leavesExact 4 t = owns (c : Thread nD τ) (ms_4 t) fullShare ((dats m 0 c).after 4 t) from rfl, after_4]
  unfold carried
  rw [cntAt_succ, sumAt_succ]
  iintro ⟨⟨%x7, %x8, %hx, H7, H8⟩, HO, ⟨%d0, H0⟩, ⟨%d1, H1⟩, ⟨%d2, H2⟩, ⟨%d3, H3⟩, ⟨%d4, H4⟩, ⟨%d5, H5⟩⟩
  have hc : cntAt m c t.val = if first (grid0.coords t) then k0_pay8 else x7 := by
    split
    · rename_i h; rw [(first_iff t).mp h]; rfl
    · rename_i h; exact (hx fun e => h ((first_iff t).mpr e)).1.symm
  have hm : sumAt m c t.val = if first (grid0.coords t) then k0_pay9 else x8 := by
    split
    · rename_i h; rw [(first_iff t).mp h]; rfl
    · rename_i h; exact (hx fun e => h ((first_iff t).mpr e)).2.symm
  iapply (body_wp (xAt m c t) (wAt m c t) (cntAt m c t.val) (sumAt m c t.val) (defs₀ (F := F)) 𝒱₀ c none (grid0.coords t)
    _ _ _ _ _ _ _ _ _ _ _ _ _ _ _ _ _ _ _ _ x7 x8 hc hm)
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  iintro ⟨H0, H1, H2, H3, H4, H5, H7, H8⟩
  isplitl [H7 H8]
  · iexists _; iexists _; isplitr; · ipureintro; exact fun _ => ⟨rfl, rfl⟩
    isplitl [H7]; · iexact H7
    iexact H8
  isplitl [HO]; · iexact HO
  isplitl [H0]; · iexact H0
  isplitl [H1]; · iexact H1
  isplitl [H2]; · iexact H2
  isplitl [H3]; · iexact H3
  isplitl [H4]; · iexact H4
  iapply (leaves_5 m c t d5); iexact H5

theorem defs₀_row (t : Fin cfg0.N) :
    defs₀ (F := F) .tc cfg0.body (cfg0.bodyArgs t (cfg0.slots t)) = bodyAt0 t := by
  rfl

theorem body_obligation (c : Dev nD) : BodyObligation (dats (F := F) m 0 c) (defs₀ (F := F)) 𝒱₀ (none : HIx 1) Set.univ := fun t => by
  rw [bigSep_W0, bigSep_W0, defs₀_row]
  exact triple_restated (sound_body m c t) rfl .rfl fun _ => .rfl

end Cert.Proof.Ker

end
-- ==== Proof.KerEntry.lean ====
/-
  The router's pipeline as a region of @main: from @main's arrays as launched it leaves the windows' arrays at what the
  pipeline writes back, the other arrays as they were, and what the TensorCore owes the SparseCores unchanged.
-/
module

public import proofs.«01_k».proof.Proof.KerRegion
public import Idealize.ShloMosaic.Lib.Pipeline.RegionArrays

@[expose] public section

set_option maxRecDepth 16384

noncomputable section

namespace Cert.Proof.Ker

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Idealize.ShloMosaic.Tactic
open Cert.KernelIdeal Cert.KernelIdeal.Gen

variable {F : FTy → Type} [FloatOps F]

local notation "𝕄" => MT nD τ sig (HIx 1) (Elt F) ℕ UU ℕ

variable (m : (ℓ : Loc nD τ sig) → Buf (Elt F) ℓ)

/-- The pipeline prefetches nothing. -/
abbrev adm (p : Fin 1) : (pcfgs (F := F) p).Adm := (cfgs p).toPCfg_adm

/-- The starts owed carry no wait of the pipeline's. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    unfold tallyAt tallyOn
    by_cases h : g = (K (F := F)).startCell d ((K (F := F)).core q c)
    · subst h; simp
    · simp [h]
  · rfl

theorem share_eq (c : Dev nD) (w : Fin cfg0.W) : (dats (F := F) m 0 c).share w = fullShare := by
  unfold Dat.share; split <;> rfl

/-- The carried buffers as whole buffers. -/
theorem carried_eq (c : Dev nD) (n : ℕ) : carried m c n
    = iprop(∃ x7 x8 : Vec F S1x64 .f32, ⌜n ≠ 0 → x7 = cntAt m c n ∧ x8 = sumAt m c n⌝
      ∗ (((c : Thread nD τ).loc cc0_scratch0) ↦{fullShare} x7) ∗ (((c : Thread nD τ).loc cc0_scratch1) ↦{fullShare} x8)) := by
  unfold carried
  refine congrArg _ (funext fun x7 => congrArg _ (funext fun x8 => ?_))
  exact congrArg (fun a => iprop(⌜_⌝ ∗ a)) (congrArg₂ (fun a b => iprop(a ∗ b)) (owns_whole _ _ _ _) (owns_whole _ _ _ _))

/-- What the TensorCore owes before the SparseCore call, every pair it has waited on at level zero. -/
def owing (d : Dev nD) : sProp 𝕄 :=
  iprop(∃ W, ⌜(K (F := F)).WBelow (SparseCore.T d) W 0⌝ ∗ owes (SparseCore.T d) ((K (F := F)).Otc d 0) W)

/-- The arrays the pipeline does not touch. -/
abbrev others (d : Dev nD) : sProp 𝕄 := Pipeline.unscopedRest spec0 d (V m d)

/-- The pipeline as a region. -/
def region : Pipeline.RegionSeg (pcfgs (F := F)) (adm (F := F)) (dats m) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation m c).loose
  hwaits c := Pipeline.cellsWaits_intro _ _ _ _ _ fun w s t => (K (F := F)).mayWait_none _ (Otc_none c 0)
  pre d := iprop(unscopedBufs d (V m d) ∗ owing d)
  post d := iprop((dats m 0 d).arrays ((dats m 0 d).arrAt · cfg0.N) ∗ others m d ∗ owing d)
  X _ := iprop(emp)
  Y _ := iprop(emp)
  Z d := others m d
  hentry d := by
    rw [Pipeline.ownSems0_none, Pipeline.prefHeld_of_none _ rfl,
      Pipeline.unscopedBufs_split cfgs 0 launch0.win.arr_unscoped launch0.win.arr_inj d (V m d),
      Pipeline.arrays_eq cfgs (dats m) 0 d launch0.arr_whole (share_eq m d)]
    unfold owing Dat.owesAt Dat.bound
    iintro ⟨⟨⟨Ha, Hr⟩, %W, %hW, HO⟩, -, -⟩
    imodintro
    isplitl [Ha]; · iexact Ha
    isplitr; · iempintro
    isplitl [HO]
    · iexists W
      isplitr; · ipureintro; exact fun p hp => Or.inl (hW p hp)
      iexact HO
    isplitr; · iempintro
    iexact Hr
  hin d := by
    rw [Pipeline.prefHeld_of_none _ rfl]
    show _ ⊢ carried m d 0
    rw [scopedRest0_eq, carried_eq]
    iintro ⟨-, -, ⟨%x7, H7⟩, %x8, H8⟩
    iexists x7; iexists x8
    isplitr; · ipureintro; exact fun h => absurd rfl h
    isplitl [H7]; · iexact H7
    iexact H8
  hout d := by
    rw [Pipeline.ownSems0_none]
    show carried m d cfg0.N ⊢ _
    rw [scopedRest0_eq, carried_eq]
    iintro ⟨%x7, %x8, -, H7, H8⟩
    isplitr; · iempintro
    isplitr; · iempintro
    isplitl [H7]; · iexists x7; iexact H7
    iexists x8; iexact H8
  hexit d := by
    unfold owing Dat.owesAt Dat.bound
    iintro ⟨Ha, ⟨%W, %hW, HO⟩, -, Hr⟩
    imodintro
    isplitl [Ha]; · iexact Ha
    isplitl [Hr]; · iexact Hr
    iexists W
    isplitr
    · ipureintro
      intro p hp
      rcases hW hp with h | ⟨w, s, h⟩
      · exact h
      · rw [h]; exact le_rfl
    iexact HO

end Cert.Proof.Ker

end
-- ==== Proof.KerSplit.lean ====
/-
  What the launch of the whole kernel hands out: the SparseCore call's three arrays split among its tiles, and the ghost
  state of the handshakes and of the router's pipeline.
-/
module

public import proofs.«01_k».proof.Proof.KerEntry
public import proofs.«01_k».proof.Proof.Pieces

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.ShloMosaic.StableHlo (held seq seqK wp_seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays split into the tiles' pieces -/

section Split

variable (fi : (d : Dev nD) → Buf (Elt F) (iLoc d)) (fp : (d : Dev nD) → Buf (Elt F) (pLoc d)) (fo : (d : Dev nD) → Buf (Elt F) (oLoc d))

theorem mem_i (L : grid1.Coords) (x : S8192.Idx) : x ∈ (iChunk L).view.set ↔ (x 0).val / 256 = 2 * (L 1).val + (L 0).val := by
  rw [show (iChunk L).view.set = (Rect.unit (s := S8192) (k1_off1 L) S256.size (k1_off1_inb L)).set from
    (View.set_slice _ _).trans Finset.map_refl]
  exact Walk.mem_chunk (k1_off1_eq L) _ x
theorem mem_p (L : grid1.Coords) (x : S32x64.Idx) : x ∈ (pRow L).view.set ↔ (x 0).val = 2 * (L 1).val + (L 0).val := by
  rw [show (pRow L).view.set = (Rect.unit (s := S32x64) (k1_off2 L) S1x64.size (k1_off2_inb L)).set from
    (View.set_reshape _ _).trans ((View.set_slice _ _).trans Finset.map_refl)]
  exact Walk.mem_row (k1_off2_eq L) _ x
theorem mem_o (L : grid1.Coords) (x : S8192.Idx) : x ∈ (oChunk L).view.set ↔ (x 0).val / 256 = 2 * (L 1).val + (L 0).val := by
  rw [show (oChunk L).view.set = (Rect.unit (s := S8192) (k1_off3 L) S256.size (k1_off3_inb L)).set from
    (View.set_slice _ _).trans Finset.map_refl]
  exact Walk.mem_chunk (k1_off3_eq L) _ x

/-- The three arrays whole are what the thirty-two tiles are given. -/
theorem given_all (d : Dev nD) :
    (iprop((iLoc d ↦{fullShare} fi d) ∗ (pLoc d ↦{fullShare} fp d) ∗ oLoc d ↦{fullShare} fo d) : sProp 𝕄)
      = bigSep Finset.univ fun c : Fin 2 => bigSep Finset.univ fun i : Fin 16 => given fi fp fo d (coordsV c i) := by
  unfold given
  simp only [bigSep_sep']
  rw [← Walk.pts_pieces (ℓ := iLoc d) (fi d) (fun c i => (iChunk (coordsV c i)).view.set) (fun x : S8192.Idx => (x 0).val / 256)
      (fun x => by have := (x 0).isLt; change (x 0).val < 8192 at this; omega) (fun c i x => mem_i (coordsV c i) x),
    ← Walk.pts_pieces (ℓ := pLoc d) (fp d) (fun c i => (pRow (coordsV c i)).view.set) (fun x : S32x64.Idx => (x 0).val)
      (fun x => (x 0).isLt) (fun c i x => mem_p (coordsV c i) x),
    ← Walk.pts_pieces (ℓ := oLoc d) (fo d) (fun c i => (oChunk (coordsV c i)).view.set) (fun x : S8192.Idx => (x 0).val / 256)
      (fun x => by have := (x 0).isLt; change (x 0).val < 8192 at this; omega) (fun c i x => mem_o (coordsV c i) x)]

theorem st0_eq (d : Dev nD) : (bigSep Finset.univ fun c : Fin ((K (F := F)).nCore 0) => (P fi fp fo).st 0 d c)
    = iprop((iLoc d ↦{fullShare} fi d) ∗ (pLoc d ↦{fullShare} fp d) ∗ oLoc d ↦{fullShare} fo d) := (given_all fi fp fo d).symm
theorem dn0_eq (d : Dev nD) : (bigSep Finset.univ fun c : Fin ((K (F := F)).nCore 0) => (P fi fp fo).dn 0 d c)
    = iprop((iLoc d ↦{fullShare} fi d) ∗ (pLoc d ↦{fullShare} fp d) ∗ oLoc d ↦{fullShare} out fi fp d) :=
  (given_all fi fp (fun d => out fi fp d) d).symm

theorem vecSplit : (K (F := F)).VecSplit' (P fi fp fo) 0 := by
  intro d c
  show (bigSep Finset.univ fun i : Fin 16 => given fi fp fo d (coordsV c i)) ⊢ |={Set.univ}=> iprop(
    (bigSep Finset.univ fun i : Fin 16 => given fi fp fo d (coordsV c i))
      ∗ ((bigSep Finset.univ fun i : Fin 16 => taken fi fp d (coordsV c i)) -∗ bigSep Finset.univ fun i : Fin 16 => taken fi fp d (coordsV c i)))
  iintro H; imodintro
  isplitl [H]; · iexact H
  iintro H; iexact H

/-! ## The launch element of the ghost state -/

/-- The pipeline's ghost state inside the program's. -/
abbrev EP : Emb UP (MT nD τ sig (HIx 1) (Elt F) ℕ UU ℕ) := (Emb.inl : Emb UP (UP × Counters)).trans embR

instance EP_lands : (EP (F := F)).LandsIn (upEmb : UEmb _ 𝕄) := by unfold EP; infer_instance

/-- What the launch leaves the pipeline. -/
abbrev ghost (d : Dev nD) : sProp 𝕄 := iprop(Pipeline.cellsGhost cfgs (EP (F := F)) 0 d ∗ Pipeline.toksInit cfgs (EP (F := F)) 0 d)

def u₀ : UU := (initOf (K (F := F)).hsCells (K (F := F)).hsToks, (initOf (Pipeline.cells cfgs cellOf_inj) (Pipeline.launchToks cfgs cellOf_inj), 1))

theorem bigSep_one (X : Dev nD → Fin 1 → sProp 𝕄) :
    (bigSep Finset.univ fun d : Dev nD => X d 0) = bigSep Finset.univ fun d : Dev nD => bigSep Finset.univ fun q : Fin 1 => X d q :=
  bigSep_congr fun d _ => (bigSep_univ_of_subsingleton (Φ := X d) (0 : Fin 1)).symm
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P fi fp fo).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj) : UP) (1 : Counters)) $$ HR
  icases H with ⟨HP, -⟩
  imod (Pipeline.fund_ghost cfgs (EP (F := F)) cellOf_inj) $$ HP with ⟨Hg, Ht⟩
  imodintro
  isplitl [HH]; · iexact HH
  isplitl [Hg Ht]
  · rw [bigSep_sep', bigSep_one (fun d p => Pipeline.cellsGhost cfgs (EP (F := F)) p d), bigSep_one (fun d p => Pipeline.toksInit cfgs (EP (F := F)) p d)]
    isplitl [Hg]; · iexact Hg
    iexact Ht
  rw [show (bigSep Finset.univ fun thr : Thread nD τ => bigSep Finset.univ fun q : Fin 1 => (P fi fp fo).x q thr) = bigSep Finset.univ fun _ => iprop(emp) from
    bigSep_congr fun _ _ => bigSep_univ_of_subsingleton (0 : Fin 1), bigSep_emp']
  iempintro

end Split

end Cert.Proof.Ker

end
-- ==== Proof.KerRun.lean ====
/-
  @main's arrays: what the pipeline leaves in them, the operations before and after the SparseCore call, and what the
  buffers hold at the end.
-/
module

public import proofs.«01_k».proof.Proof.KerSplit

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.ShloMosaic.StableHlo (held seq seqK wp_seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## @main's arrays -/

variable (m : (ℓ : Loc nD τ sig) → Buf (Elt F) ℓ) (ρ : Dev nD → PrngReg)

abbrev dv (b : Ref sig .tc) : DevRef τ sig := Proc.devRef .tc b

/-- The arrays the pipeline leaves to the rest of @main, the call's three apart. -/
abbrev Srest : Finset (DevRef τ sig) :=
  {dv main_arg0, dv main_arg1, dv main_v0_0, dv main_v0_1, dv main_v0_2, dv main_v0_3, dv main_v4, dv main_v5, dv main_v6, dv main_c, dv main_c_0}
abbrev Sall : Finset (DevRef τ sig) := insert (dv main_v1) (insert (dv main_v2) (insert (dv main_v3) Srest))

/-- What the pipeline's windows hold at its end, at the arrays' own types. -/
abbrev Left (d : Dev nD) : Type := (w : Fin cfg0.W) → Buf (Elt F) ((d.tc : Thread nD τ).loc (Pipeline.arrRef spec0 w))

/-- The arrays after the pipeline, its windows' at `G`. -/
def W1 (d : Dev nD) (G : Left (F := F) d) : Valuation τ sig (Elt F) :=
  Function.update (Function.update (Function.update (Function.update (fun b => m (d, b))
    (dv main_v0_0) (G 2)) (dv main_v0_1) (G 3)) (dv main_v0_2) (G 4)) (dv main_v0_3) (G 5)

section

variable (d : Dev nD) (G : Left (F := F) d)

/-- The windows' output arrays. -/
abbrev written : Finset (DevRef τ sig) := {dv main_v0_0, dv main_v0_1, dv main_v0_2, dv main_v0_3}

theorem W1_other {b : DevRef τ sig} (h : b ∉ written) : W1 m d G b = m (d, b) := by
  simp only [written, Finset.mem_insert, Finset.mem_singleton, not_or] at h
  unfold W1
  rw [Function.update_of_ne h.2.2.2, Function.update_of_ne h.2.2.1, Function.update_of_ne h.2.1, Function.update_of_ne h.1]
theorem W1_idx : W1 m d G (dv main_v0_0) = G 2 := by
  unfold W1
  rw [Function.update_of_ne (by decide), Function.update_of_ne (by decide), Function.update_of_ne (by decide), Function.update_self]
theorem W1_gate : W1 m d G (dv main_v0_1) = G 3 := by
  unfold W1
  rw [Function.update_of_ne (by decide), Function.update_of_ne (by decide), Function.update_self]
theorem W1_pref : W1 m d G (dv main_v0_2) = G 4 := by
  unfold W1
  rw [Function.update_of_ne (by decide), Function.update_self]
theorem W1_loss : W1 m d G (dv main_v0_3) = G 5 := by
  unfold W1
  rw [Function.update_self]

end

/-- The call's arrays and the rest. -/
theorem held_Sall (d : Dev nD) (W : Valuation τ sig (Elt F)) :
    (held (SparseCore.T d) Sall W : sProp 𝕄) = iprop((iLoc d ↦{fullShare} W (dv main_v1)) ∗ (pLoc d ↦{fullShare} W (dv main_v2))
      ∗ (oLoc d ↦{fullShare} W (dv main_v3)) ∗ held (SparseCore.T d) Srest W) := by
  unfold held Sall
  rw [SparseCore.bigSep_insert' (by decide), SparseCore.bigSep_insert' (by decide), SparseCore.bigSep_insert' (by decide)]

theorem held_Srest (d : Dev nD) (W : Valuation τ sig (Elt F)) :
    (held (SparseCore.T d) Srest W : sProp 𝕄) = iprop(((SparseCore.T d).loc main_arg0 ↦{fullShare} W (dv main_arg0)) ∗ ((SparseCore.T d).loc main_arg1 ↦{fullShare} W (dv main_arg1))
      ∗ ((SparseCore.T d).loc main_v0_0 ↦{fullShare} W (dv main_v0_0)) ∗ ((SparseCore.T d).loc main_v0_1 ↦{fullShare} W (dv main_v0_1))
      ∗ ((SparseCore.T d).loc main_v0_2 ↦{fullShare} W (dv main_v0_2)) ∗ ((SparseCore.T d).loc main_v0_3 ↦{fullShare} W (dv main_v0_3))
      ∗ ((SparseCore.T d).loc main_v4 ↦{fullShare} W (dv main_v4)) ∗ ((SparseCore.T d).loc main_v5 ↦{fullShare} W (dv main_v5))
      ∗ ((SparseCore.T d).loc main_v6 ↦{fullShare} W (dv main_v6)) ∗ ((SparseCore.T d).loc main_c ↦{fullShare} W (dv main_c))
      ∗ (SparseCore.T d).loc main_c_0 ↦{fullShare} W (dv main_c_0)) := by
  unfold held Srest
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem reorder (A0 A1 A2 A3 A4 A5 R1 R2 R3 R4 R5 R6 R7 R8 : sProp 𝕄) :
    iprop((A0 ∗ A1 ∗ A2 ∗ A3 ∗ A4 ∗ A5) ∗ R1 ∗ R2 ∗ R3 ∗ R4 ∗ R5 ∗ R6 ∗ R7 ∗ R8)
      ⊢ iprop(R1 ∗ R2 ∗ R3 ∗ A0 ∗ A1 ∗ A2 ∗ A3 ∗ A4 ∗ A5 ∗ R4 ∗ R5 ∗ R6 ∗ R7 ∗ R8) := by
  iintro ⟨⟨H0, H1, H2, H3, H4, H5⟩, R1, R2, R3, R4, R5, R6, R7, R8⟩
  isplitl [R1]; · iexact R1
  isplitl [R2]; · iexact R2
  isplitl [R3]; · iexact R3
  isplitl [H0]; · iexact H0
  isplitl [H1]; · iexact H1
  isplitl [H2]; · iexact H2
  isplitl [H3]; · iexact H3
  isplitl [H4]; · iexact H4
  isplitl [H5]; · iexact H5
  isplitl [R4]; · iexact R4
  isplitl [R5]; · iexact R5
  isplitl [R6]; · iexact R6
  isplitl [R7]; · iexact R7
  iexact R8

theorem held_W1 (d : Dev nD) (G : Left (F := F) d) : (held (SparseCore.T d) Sall (W1 m d G) : sProp 𝕄)
    = iprop((iLoc d ↦{fullShare} m (iLoc d)) ∗ (pLoc d ↦{fullShare} m (pLoc d)) ∗ (oLoc d ↦{fullShare} m (oLoc d))
      ∗ ((SparseCore.T d).loc main_arg0 ↦{fullShare} V m d main_arg0) ∗ ((SparseCore.T d).loc main_arg1 ↦{fullShare} V m d main_arg1)
      ∗ ((SparseCore.T d).loc main_v0_0 ↦{fullShare} G 2) ∗ ((SparseCore.T d).loc main_v0_1 ↦{fullShare} G 3)
      ∗ ((SparseCore.T d).loc main_v0_2 ↦{fullShare} G 4) ∗ ((SparseCore.T d).loc main_v0_3 ↦{fullShare} G 5)
      ∗ ((SparseCore.T d).loc main_v4 ↦{fullShare} V m d main_v4) ∗ ((SparseCore.T d).loc main_v5 ↦{fullShare} V m d main_v5)
      ∗ ((SparseCore.T d).loc main_v6 ↦{fullShare} V m d main_v6) ∗ ((SparseCore.T d).loc main_c ↦{fullShare} V m d main_c)
      ∗ (SparseCore.T d).loc main_c_0 ↦{fullShare} V m d main_c_0) := by
  rw [held_Sall, held_Srest, W1_idx, W1_gate, W1_pref, W1_loss, W1_other m d G (b := dv main_v1) (by decide),
    W1_other m d G (b := dv main_v2) (by decide), W1_other m d G (b := dv main_v3) (by decide), W1_other m d G (b := dv main_v4) (by decide),
    W1_other m d G (b := dv main_v5) (by decide), W1_other m d G (b := dv main_v6) (by decide), W1_other m d G (b := dv main_c) (by decide),
    W1_other m d G (b := dv main_c_0) (by decide), W1_other m d G (b := dv main_arg0) (by decide), W1_other m d G (b := dv main_arg1) (by decide)]

theorem arrays_left (d : Dev nD) (G : Left (F := F) d) : ((dats m 0 d).arrays G : sProp 𝕄)
    = iprop(((SparseCore.T d).loc main_arg0 ↦{fullShare} G 0) ∗ ((SparseCore.T d).loc main_arg1 ↦{fullShare} G 1)
      ∗ ((SparseCore.T d).loc main_v0_0 ↦{fullShare} G 2) ∗ ((SparseCore.T d).loc main_v0_1 ↦{fullShare} G 3)
      ∗ ((SparseCore.T d).loc main_v0_2 ↦{fullShare} G 4) ∗ ((SparseCore.T d).loc main_v0_3 ↦{fullShare} G 5)) :=
  (Pipeline.arrays_eq cfgs (dats m) 0 d launch0.arr_whole (share_eq m d) G).trans (bigSep_W0 _)

/-- What the pipeline leaves, as the arrays held. -/
theorem left_held (d : Dev nD) (G : Left (F := F) d) (h0 : G 0 = V m d main_arg0) (h1 : G 1 = V m d main_arg1) :
    iprop((dats m 0 d).arrays G ∗ others m d) ⊢ (held (SparseCore.T d) Sall (W1 m d G) : sProp 𝕄) := by
  unfold others
  rw [arrays_left, held_W1, unscopedRest0_eq, h0, h1]
  exact reorder _ _ _ _ _ _ _ _ _ _ _ _ _ _

/-! ## @main's operations -/

/-- The reshapes before the call and the operations after it. -/
abbrev opsBefore : List (HloOp τ sig (Elt F)) :=
  [StableHlo.reshape main_v0_0 main_v1 (rfl : (.i32 : EltTy) = .i32) shapeCasts_S8192x1_S8192,
    StableHlo.reshape main_v0_2 main_v2 (rfl : (.i32 : EltTy) = .i32) shapeCasts_S8x4x64_S32x64]
abbrev opsAfter : List (HloOp τ sig (Elt F)) :=
  [StableHlo.reshape main_v0_3 main_v4 (rfl : (.f32 : EltTy) = .f32) shapeCasts_S1x1_S_,
    StableHlo.reshape main_v0_0 main_v5 (rfl : (.i32 : EltTy) = .i32) shapeCasts_S8192x1_S8192,
    StableHlo.reshape main_v0_1 main_v6 (rfl : (.f32 : EltTy) = .f32) shapeCasts_S8192x1_S8192,
    StableHlo.nullary main_c (constantI S_ 32 128#32), StableHlo.nullary main_c_0 (constantI S_ 32 64#32)]

theorem main_eq (d : Dev nD) : main (F := F) d = (Prog.lift (.customCall (SparseCore.inner (Pipeline.entry 0)) ()) >>= fun _ =>
    (seq opsBefore >>= fun _ => (sc (F := F)).run d 0 >>= fun _ => seq opsAfter)) := by
  rw [StableHlo.seq_bind_seqK]; rfl

theorem before_sub : ∀ op ∈ (opsBefore : List (HloOp τ sig (Elt F))), op.bufs ⊆ Sall := by
  intro op h
  simp only [opsBefore, List.mem_cons, List.not_mem_nil, or_false] at h
  rcases h with rfl | rfl
  · exact (by decide : ({dv main_v0_0, dv main_v1} : Finset (DevRef τ sig)) ⊆ Sall)
  · exact (by decide : ({dv main_v0_2, dv main_v2} : Finset (DevRef τ sig)) ⊆ Sall)
theorem before_fresh : ∀ op ∈ (opsBefore : List (HloOp τ sig (Elt F))), op.fresh = ∅ := by
  intro op h
  simp only [opsBefore, List.mem_cons, List.not_mem_nil, or_false] at h
  rcases h with rfl | rfl <;> rfl
theorem after_sub : ∀ op ∈ (opsAfter : List (HloOp τ sig (Elt F))), op.bufs ⊆ Srest := by
  intro op h
  simp only [opsAfter, List.mem_cons, List.not_mem_nil, or_false] at h
  rcases h with rfl | rfl | rfl | rfl | rfl
  · exact (by decide : ({dv main_v0_3, dv main_v4} : Finset (DevRef τ sig)) ⊆ Srest)
  · exact (by decide : ({dv main_v0_0, dv main_v5} : Finset (DevRef τ sig)) ⊆ Srest)
  · exact (by decide : ({dv main_v0_1, dv main_v6} : Finset (DevRef τ sig)) ⊆ Srest)
  · exact (by decide : ({dv main_c} : Finset (DevRef τ sig)) ⊆ Srest)
  · exact (by decide : ({dv main_c_0} : Finset (DevRef τ sig)) ⊆ Srest)
theorem after_fresh : ∀ op ∈ (opsAfter : List (HloOp τ sig (Elt F))), op.fresh = ∅ := by
  intro op h
  simp only [opsAfter, List.mem_cons, List.not_mem_nil, or_false] at h
  rcases h with rfl | rfl | rfl | rfl | rfl <;> rfl

/-- The experts and the table, as the call gets them from windows at `G`. -/
def fiOf (d : Dev nD) (G : Left (F := F) d) : Buf (Elt F) (iLoc d) := shapeCast S8192 (show Vec F S8192x1 .i32 from G 2) shapeCasts_S8192x1_S8192
def fpOf (d : Dev nD) (G : Left (F := F) d) : Buf (Elt F) (pLoc d) := shapeCast S32x64 (show Vec F S8x4x64 .i32 from G 4) shapeCasts_S8x4x64_S32x64

/-- The arrays the call gets, and the rest. -/
theorem held_call (d : Dev nD) (G : Left (F := F) d) : (held (SparseCore.T d) Sall (after opsBefore (W1 m d G)) : sProp 𝕄)
    = iprop((iLoc d ↦{fullShare} fiOf d G) ∗ (pLoc d ↦{fullShare} fpOf d G) ∗ (oLoc d ↦{fullShare} m (oLoc d))
      ∗ held (SparseCore.T d) Srest (after opsBefore (W1 m d G))) := by
  have hi : after opsBefore (W1 m d G) (dv main_v1) = fiOf d G := by
    unfold fiOf
    rw [← W1_idx m d G]
    generalize W1 m d G = W
    after_results <;> rfl
  have hp : after opsBefore (W1 m d G) (dv main_v2) = fpOf d G := by
    unfold fpOf
    rw [← W1_pref m d G]
    generalize W1 m d G = W
    after_results <;> rfl
  have ho : after opsBefore (W1 m d G) (dv main_v3) = m (oLoc d) := by
    refine Eq.trans ?_ (W1_other m d G (b := dv main_v3) (by decide))
    generalize W1 m d G = W
    after_results <;> rfl
  rw [held_Sall, hi, hp, ho]

/-- The buffers at the end, the call's three apart. -/
abbrev Wend (d : Dev nD) (G : Left (F := F) d) : Valuation τ sig (Elt F) := after opsAfter (after opsBefore (W1 m d G))

section

variable (d : Dev nD) (G : Left (F := F) d)

theorem end_arg0 : Wend m d G (dv main_arg0) = m ((SparseCore.T d).loc main_arg0) := by
  refine Eq.trans ?_ (W1_other m d G (b := dv main_arg0) (by decide))
  unfold Wend
  generalize W1 m d G = W
  after_results <;> rfl
theorem end_arg1 : Wend m d G (dv main_arg1) = m ((SparseCore.T d).loc main_arg1) := by
  refine Eq.trans ?_ (W1_other m d G (b := dv main_arg1) (by decide))
  unfold Wend
  generalize W1 m d G = W
  after_results <;> rfl
theorem end_loss : Wend m d G (dv main_v4) = shapeCast S_ (show Vec F S1x1 .f32 from G 5) shapeCasts_S1x1_S_ := by
  rw [← W1_loss m d G]
  unfold Wend
  generalize W1 m d G = W
  after_results <;> rfl
theorem end_idx : Wend m d G (dv main_v5) = shapeCast S8192 (show Vec F S8192x1 .i32 from G 2) shapeCasts_S8192x1_S8192 := by
  rw [← W1_idx m d G]
  unfold Wend
  generalize W1 m d G = W
  after_results <;> rfl
theorem end_gate : Wend m d G (dv main_v6) = shapeCast S8192 (show Vec F S8192x1 .f32 from G 3) shapeCasts_S8192x1_S8192 := by
  rw [← W1_gate m d G]
  unfold Wend
  generalize W1 m d G = W
  after_results <;> rfl
theorem end_c : Wend m d G (dv main_c) = constantI S_ 32 128#32 := by
  unfold Wend
  generalize W1 m d G = W
  after_results <;> rfl
theorem end_c_0 : Wend m d G (dv main_c_0) = constantI S_ 32 64#32 := by
  unfold Wend
  generalize W1 m d G = W
  after_results <;> rfl

end

end Cert.Proof.Ker

end
-- ==== Proof.KerMain.lean ====
/-
  The whole kernel run: @main runs the router's pipeline, reshapes its experts and its table of counters for the
  SparseCore call, makes the call and reshapes the results. The experts being lanes of the table, it ends with the
  results named here and every semaphore back at zero.
-/
module

public import proofs.«01_k».proof.Proof.KerRun

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.ShloMosaic.StableHlo (held seq seqK wp_seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the pipeline's windows hold at its end. -/
def left (d : Dev nD) : Left (F := F) d := fun w => (dats m 0 d).arrAt w cfg0.N

def fi (d : Dev nD) : Buf (Elt F) (iLoc d) := fiOf d (left m d)
def fp (d : Dev nD) : Buf (Elt F) (pLoc d) := fpOf d (left m d)
def fo (d : Dev nD) : Buf (Elt F) (oLoc d) := m (oLoc d)

theorem left_0 (d : Dev nD) : left m d 0 = V m d main_arg0 := by
  unfold left
  exact (dats m 0 d).arrAt_in (0 : Fin 6) rfl _
theorem left_1 (d : Dev nD) : left m d 1 = V m d main_arg1 := by
  unfold left
  exact (dats m 0 d).arrAt_in (1 : Fin 6) rfl _

/-- What @main leaves the claim. -/
abbrev FIN (d : Dev nD) : sProp 𝕄 :=
  iprop((oLoc d ↦{fullShare} out (fi m) (fp m) d) ∗ held (SparseCore.T d) Srest (Wend m d (left m d)))

theorem region_pre (d : Dev nD) : (region m).pre d = iprop(unscopedBufs d (V m d) ∗ owing (F := F) d) := rfl
theorem region_post (d : Dev nD) : (region m).post d = iprop((dats m 0 d).arrays (left m d) ∗ others m d ∗ owing (F := F) d) := rfl

set_option maxHeartbeats 4000000 in
/-- The pipeline's own proof of its call. -/
theorem wp_region (d : Dev nD) (Q : PUnit → sProp 𝕄) :
    iprop((iprop(boundary (d.tc : Thread nD τ) ∗ (region m).post d) -∗ wp frame (wpE (D (F := F)) 𝒱 (d.tc : Thread nD τ) none) Set.univ (.ret ⟨⟩) Q)
        ∗ boundary (d.tc : Thread nD τ) ∗ (region m).pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (d.tc : Thread nD τ) none) Set.univ (.op (.customCall (Pipeline.entry 0) ()) fun _ => .ret ⟨⟩) Q :=
  Pipeline.RegionSeg.wp (pcfgs (F := F)) (adm (F := F)) (dats m) none cellOf_inj (EP (F := F)) (defs₀ (F := F)) 𝒱₀ (K (F := F)).L (K (F := F)).lev
    (region m) d none (fun u hu => absurd hu (by simp)) (fun _ => .ret ⟨⟩) Q

/-- The pipeline's call, under the program's body table. -/
theorem wp_router (d : Dev nD) (Q : PUnit → sProp 𝕄) :
    iprop((iprop(boundary (SparseCore.T d) ∗ held (SparseCore.T d) Sall (W1 m d (left m d)) ∗ owing (F := F) d) -∗ Q ⟨⟩)
        ∗ boundary (SparseCore.T d) ∗ unscopedBufs d (V m d) ∗ owing (F := F) d ∗ levAts (K (F := F)).L (K (F := F)).lev ∗ ghost (F := F) d)
      ⊢ wp frame (wpE ((K (F := F)).defs (D (F := F))) 𝒱 (SparseCore.T d) none) Set.univ
          (Prog.lift (.customCall (SparseCore.inner (Pipeline.entry 0)) ())) Q := by
  have hlift : (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ())) := rfl
  rw [hlift]
  iintro ⟨HQ, Hb, Hu, HO, HL, Hg, Ht⟩
  iapply ((K (F := F)).wp_liftProg (D (F := F)) 𝒱 (SparseCore.T d) Set.univ none _ Q)
  iapply (wp_region m d Q)
  rw [region_pre, region_post]
  isplitl [HQ]
  · iintro ⟨Hb, Ha, Hr, HO⟩
    rw [wp_ret]; imodintro
    iapply HQ
    isplitl [Hb]; · iexact Hb
    isplitr [HO]
    · iapply (left_held m d (left m d) (left_0 m d) (left_1 m d))
      isplitl [Ha]; · iexact Ha
      iexact Hr
    iexact HO
  isplitl [Hb]; · iexact Hb
  isplitl [Hu HO]
  · isplitl [Hu]; · iexact Hu
    iexact HO
  isplitl [HL]; · iexact HL
  isplitl [Hg]; · iexact Hg
  iexact Ht

/-- The TensorCore's state before the call, but for what it owes. -/
def rest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_zero (d : Dev nD) : ((K (F := F)).tcSt EH d 0 : sProp 𝕄) = iprop(owing (F := F) d ∗ rest (F := F) d) := rfl

theorem hmain (κ : GSem nD τ sig → ℕ) (d : Dev nD) :
    iprop((K (F := F)).ctx EH (P (fi m) (fp m) (fo m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind, tcSt_zero]
  iintro ⟨#Hctx, ⟨HO, Hst⟩, ⟨Hb, Hu, Hts, -⟩, Hg⟩
  ihave Hlev := (SparseCore.Cfg.ctx_levAts κ) $$ Hctx
  iapply (wp_router m d)
  isplitr [Hb Hu HO Hlev Hg]
  rotate_left
  · isplitl [Hb]; · iexact Hb
    isplitl [Hu]; · iexact Hu
    isplitl [HO]; · iexact HO
    isplitl [Hlev]; · iexact Hlev
    iexact Hg
  iintro ⟨Hb, Hheld, HO⟩
  iapply (wp_seq 𝒱 none Set.univ d Sall _ opsBefore before_sub before_fresh (W1 m d (left m d))) $$ [Hb Hheld]
  · isplitl [Hb]; · iexact Hb
    iexact Hheld
  iintro ⟨Hb, Hheld⟩
  ihave Hh := (Entails.of_eq (held_call (F := F) m d (left m d))) $$ Hheld
  icases Hh with ⟨Hi, Hp, Ho, Hrest⟩
  rw [wp_bind]
  iapply ((K (F := F)).wp_run (D (F := F)) 𝒱 (EH := EH) (P := P (fi m) (fp m) (fo m)) κ d 0) $$ [HO Hst Hi Hp Ho Hrest Hb Hts]
  isplitr; · iexact Hctx
  isplitl [HO Hst]
  · iapply (Entails.of_eq (tcSt_zero (F := F) d).symm)
    isplitl [HO]; · iexact HO
    iexact Hst
  isplitl [Hi Hp Ho]
  · rw [st0_eq]
    isplitl [Hi]; · iexact Hi
    isplitl [Hp]; · iexact Hp
    iexact Ho
  iintro ⟨Hst, Hdn⟩
  ihave Hdn' := (Entails.of_eq (dn0_eq (fi m) (fp m) (fo m) d)) $$ Hdn
  icases Hdn' with ⟨-, -, Ho⟩
  rw [← bind_pure (seq opsAfter)]
  iapply (wp_seq 𝒱 none Set.univ d Srest _ opsAfter after_sub after_fresh (after opsBefore (W1 m d (left m d)))) $$ [Hb Hrest]
  · isplitl [Hb]; · iexact Hb
    iexact Hrest
  iintro ⟨Hb, Hrest⟩
  rw [wp_pure]; imodintro
  isplitl [Hst]; · iexact Hst
  isplitr [Hb Hts]
  · isplitl [Ho]; · iexact Ho
    iexact Hrest
  isplitl [Hb] <;> iassumption

/-- What the memory holds at the end. -/
def fq (d : Dev nD) (s' : Phys nD τ sig (Elt F)) : Prop :=
  s'.mem.mem (oLoc d) = out (fi m) (fp m) d ∧ ∀ b ∈ Srest, s'.mem.mem (d, b) = Wend m d (left m d) b

/-- An array held whole is what the memory holds. -/
theorem read_off (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h, HSI, -⟩
  isplitr
  · ipureintro; exact funext fun i => h i (Finset.mem_univ i)
  · iexact HSI

/-- So is a set of them. -/
theorem read_held (d : Dev nD) (W : Valuation τ sig (Elt F)) (s' : Phys nD τ sig (Elt F)) (A : Finset (DevRef τ sig)) :
    iprop(held (SparseCore.T d) A W ∗ SI s') ⊢ (iprop(⌜∀ b ∈ A, s'.mem.mem (d, b) = W b⌝ ∗ SI s') : sProp 𝕄) := by
  classical
  induction A using Finset.induction_on with
  | empty =>
    iintro ⟨-, HSI⟩
    isplitr
    · ipureintro; exact fun b hb => absurd hb (Finset.notMem_empty b)
    · iexact HSI
  | insert a A ha ih =>
    unfold held at ih ⊢
    rw [SparseCore.bigSep_insert' ha]
    iintro ⟨⟨H, HA⟩, HSI⟩
    ihave H := (read_off s' (d, a) (W a)) $$ [H HSI]; · isplitl [H] <;> iassumption
    icases H with ⟨%h, HSI⟩
    ihave H := ih $$ [HA HSI]; · isplitl [HA] <;> iassumption
    icases H with ⟨%hA, HSI⟩
    isplitr
    · ipureintro
      intro b hb
      rcases Finset.mem_insert.mp hb with e | hb
      · subst e; exact h
      · exact hA b hb
    · iexact HSI

theorem hfin (d : Dev nD) (s' : Phys nD τ sig (Elt F)) : iprop(FIN m d ∗ SI s') ⊢ (⌜fq m d s'⌝ : sProp 𝕄) := by
  iintro ⟨⟨Ho, Hr⟩, HSI⟩
  ihave H := (read_off s' (oLoc d) (out (fi m) (fp m) d)) $$ [Ho HSI]; · isplitl [Ho] <;> iassumption
  icases H with ⟨%h, HSI⟩
  ihave H := (read_held d (Wend m d (left m d)) s' Srest) $$ [Hr HSI]; · isplitl [Hr] <;> iassumption
  icases H with ⟨%hr, HSI⟩
  ipureintro; exact ⟨h, hr⟩

/-! ## The run -/

def QC : PUnit × MemSt nD τ sig (Elt F) → Prop := fun r =>
  (∀ d : Dev nD, r.2.mem (oLoc d) = out (fi m) (fp m) d ∧ ∀ b ∈ Srest, r.2.mem (d, b) = Wend m d (left m d) b) ∧ r.2.sem = fun _ => 0

theorem run_main [∀ e, Nonempty (Elt F e)] (hi : InRange (fi m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fi m) (fp m) (fo m)) (A := ∅) facts v₀
    (fun q hq => match q with | 0 => nomatch hq)
    (fun q _ => match q with | 0 => tileObl (fi m) (fp m) (fo m) hi)
    (fun q _ => match q with | 0 => SparseCore.Cfg.VecSplit.of_plain (vecSplit (fi m) (fp m) (fo m)))
    m ρ main (ghost (F := F)) (FIN m) (u₀ (F := F)) (sep_elim_left.trans (hu₀ (fi m) (fp m) (fo m))) (hmain m ρ) (fq m) (hfin m) (QC m) (fun _ h hz => ⟨h, hz⟩)

end Cert.Proof.Ker

end
-- ==== Proof.KerBlock.lean ====
/-
  What one block of the router leaves over the extended reals, token by token and expert by expert.
-/
module

public import proofs.«01_k».proof.Proof.Router
public import proofs.«01_k».proof.Proof.Choice
public import proofs.«01_k».proof.Proof.Sums
public import Idealize.ShloMosaic.Lib.IdealHost
public import Idealize.ShloMosaic.Lib.Pipeline.Value
public import Idealize.ShloMosaic.Lib.ValueLayout
public import Idealize.ShloMosaic.Lib.ValueLayoutCasts
public import Idealize.ShloMosaic.Lib.ValueIdxRank1

@[expose] public section

noncomputable section

namespace Cert.Proof.Ker

open Cert.KernelIdeal Cert.KernelIdeal.Gen Idealize.ShloMosaic Idealize.ShloMosaic.ValueIdx
open Cert.Proof

/-! ## Words and counts -/

/-- One, where a token goes to an expert. -/
def one (p : Prop) [Decidable p] : EReal := ((if p then 1 else 0 : ℝ) : EReal)

/-- A count, as a value. -/
def amount (n : ℕ) : EReal := ((n : ℝ) : EReal)

/-- The hits before a token and those among the `k` tokens from it. -/
theorem amount_add (ids : ℕ → ℕ) (n k e : ℕ) :
    amount (Walk.hits ids n e) + ∑ j : Fin k, one (ids (n + j.val) = e) = amount (Walk.hits ids (n + k) e) := by
  induction k with
  | zero => simp
  | succ k ih =>
    rw [Fin.sum_univ_castSucc, ← add_assoc]
    refine (congrArg (· + _) ih).trans ?_
    rw [← Nat.add_assoc, Walk.hits_succ]
    unfold amount one
    rw [← EReal.coe_add]
    refine congrArg _ ?_
    push_cast
    rfl

/-- All the hits of `k` tokens. -/
theorem amount_all (ids : ℕ → ℕ) (k e : ℕ) : ∑ j : Fin k, one (ids j.val = e) = amount (Walk.hits ids k e) := by
  have h := amount_add ids 0 k e
  simp only [Nat.zero_add] at h
  rw [← h, show amount (Walk.hits ids 0 e) = 0 from by simp [amount, Walk.hits], zero_add]

/-- A count's word. -/
theorem amount_word {n : ℕ} (h : n < 2 ^ 31) : Ideal.fptosi 32 (amount n) = BitVec.ofNat 32 n := by
  unfold Ideal.fptosi amount
  rw [Ideal.toIntClamped_coe, if_pos (Nat.cast_nonneg n), Int.floor_natCast,
    show max (-((2 ^ (32 - 1) : ℕ) : ℤ)) (min (((2 ^ (32 - 1) : ℕ) : ℤ) - 1) (n : ℤ)) = (n : ℤ) from by omega]
  exact BitVec.ofInt_natCast 32 n

theorem hits_le (ids : ℕ → ℕ) (n e : ℕ) : Walk.hits ids n e ≤ n :=
  (Finset.card_filter_le _ _).trans (Finset.card_range n).le

/-! ## Reductions and layouts -/

theorem lift_row {a b : ℕ} (r : Fin a) (h : (⟨2, ![a, b]⟩ : Shape).Reduces [1] ⟨1, ![a]⟩) (e : Fin b) : h.lift (ix1 r) e = ix2 r e := by
  funext i
  match i with
  | ⟨0, _⟩ => rfl
  | ⟨1, _⟩ => rfl

theorem lift_col {a b : ℕ} (e : Fin b) (h : (⟨2, ![a, b]⟩ : Shape).Reduces [0] ⟨1, ![b]⟩) (r : Fin a) : h.lift (ix1 e) r = ix2 r e := by
  funext i
  match i with
  | ⟨0, _⟩ => rfl
  | ⟨1, _⟩ => rfl

/-- A column spread over the experts. -/
theorem spread_at {α : Type} (v : S1024x1.Idx → α) (r : Fin 1024) (e : Fin 64) :
    broadcastTo S1024x64 v broadcasts_S1024x1_S1024x64 (ix2 r e) = v (ix2 r 0) :=
  broadcastTo_apply v _ _ _ fun a => by
    match a with
    | ⟨0, _⟩ => rfl
    | ⟨1, _⟩ => rfl

/-- The sum over a block's rows, as a row. -/
theorem total_at (v : Vec Ideal S1024x64 .f32) (e : Fin 64) :
    shapeCast S1x64 (multiReduction (F := Ideal) (φ := .f32) .add [0] S64 v 0x00000000#32 reduces_S1024x64_S64 (.inl rfl) rfl) shapeCasts_S64_S1x64 (ix2 0 e)
      = ∑ r : Fin 1024, v (ix2 r e) := by
  refine (shapeCast_a_1a_apply _ _ _ _).trans ((Ideal.multiReduction_add_single _ _ _ _ _ _).trans ?_)
  exact Finset.sum_congr rfl fun r _ => congrArg v (lift_col e _ r)

/-- The sum over 256 of a block's rows. -/
theorem part_at (v : Vec Ideal S1024x64 .f32) {o : ℕ} (h : S1024x64.Slices ![o, 0] S256x64) (ho : o + 256 ≤ 1024) (e : Fin 64) :
    shapeCast S1x64 (multiReduction (F := Ideal) (φ := .f32) .add [0] S64 (extractStridedSlice S256x64 ![o, 0] v h) 0x00000000#32 reduces_S256x64_S64 (.inl rfl) rfl)
        shapeCasts_S64_S1x64 (ix2 0 e)
      = ∑ j : Fin 256, v (ix2 ⟨o + j.val, by omega⟩ e) := by
  refine (shapeCast_a_1a_apply _ _ _ _).trans ((Ideal.multiReduction_add_single _ _ _ _ _ _).trans ?_)
  refine Finset.sum_congr rfl fun j _ => ?_
  refine (congrArg (extractStridedSlice S256x64 ![o, 0] v h) (lift_col e _ j)).trans ?_
  exact slice2_axis0_apply o v h j e _ rfl

/-- Four rows stacked. -/
theorem stack_at (f : Fin 4 → S1x64.Idx → EReal) (h) (q : Fin 4) (e : Fin 64) :
    concatenate S4x64 0 [⟨S1x64, f 0⟩, ⟨S1x64, f 1⟩, ⟨S1x64, f 2⟩, ⟨S1x64, f 3⟩] h (ix2 q e) = f q (ix2 0 e) :=
  concatenate_ofFn_unit_apply (t := S4x64) (s₁ := S1x64) 0 f h rfl rfl (ix2 q e) q rfl (ix2 0 e) fun b hb => by
    match b with
    | ⟨0, _⟩ => exact absurd rfl hb
    | ⟨1, _⟩ => rfl

/-- The places along the last axis of a shape with two unit axes before it. -/
def lastAxis : Fin 64 ≃ S1x1x64.Idx where
  toFun e := ix3 0 0 e
  invFun i := i 2
  left_inv _ := rfl
  right_inv i := funext fun a => by
    match a with
    | ⟨0, _⟩ => exact Subsingleton.elim (α := Fin 1) _ _
    | ⟨1, _⟩ => exact Subsingleton.elim (α := Fin 1) _ _
    | ⟨2, _⟩ => rfl

/-! ## The logits and what is chosen -/

variable (x : Vec Ideal S1024x4096 .f32) (w : Vec Ideal S64x4096 .f32) (r : Fin 1024) (e : Fin 64)

theorem logits_at : k0_pay10 (F := Ideal) x w (ix2 r e) = Choice.row x w r e := by
  unfold k0_pay10 Choice.row
  simp only [matmul]
  refine (Ideal.matmul_constant_zero_apply _ _ _ _ _).trans ?_
  rw [← Equiv.sum_comp (contrEquiv1 dot_S1024x4096_S64x4096_S1024x64_1_1_0_0_n_n 4096 rfl rfl).symm]
  refine Finset.sum_congr rfl fun k _ => congrArg₂ (fun a b : EReal => a * b) (congrArg x ?_) (congrArg w ?_)
  · funext a
    match a with
    | ⟨0, _⟩ => rfl
    | ⟨1, _⟩ => exact Fin.ext (contrEquiv1_symm_val dot_S1024x4096_S64x4096_S1024x64_1_1_0_0_n_n 4096 rfl rfl k)
  · funext a
    match a with
    | ⟨0, _⟩ => rfl
    | ⟨1, _⟩ => exact Fin.ext (contrEquiv1_symm_val dot_S1024x4096_S64x4096_S1024x64_1_1_0_0_n_n 4096 rfl rfl k)

theorem bottom : FloatOps.ofBits (F := Ideal) .f32 0xFF800000#32 = (⊥ : EReal) := by
  refine (show _ = Ideal.ofBits .f32 0xFF800000#32 from rfl).trans ?_
  simp [Ideal.ofBits, Ideal.ieee]

theorem top_at : k0_pay11 (F := Ideal) x w (ix2 r 0) = Choice.top (Choice.row x w r) := by
  unfold k0_pay11 Choice.top
  refine (shapeCast_a_a1_apply _ _ _ _).trans ((Ideal.multiReduction_maximumf_single _ _ _ _ _ _).trans ?_)
  exact congrArg₂ (fun b f => (Finset.univ : Finset (Fin 64)).fold max b f) bottom
    (funext fun e => (congrArg (k0_pay10 (F := Ideal) x w) (lift_row r _ e)).trans (logits_at x w r e))

theorem ex_at : k0_pay12 (F := Ideal) x w (ix2 r e) = Choice.ex (Choice.row x w r) e := by
  unfold k0_pay12 Choice.ex
  refine (show _ = Ideal.exp (k0_pay10 (F := Ideal) x w (ix2 r e) - broadcastTo S1024x64 (k0_pay11 x w) broadcasts_S1024x1_S1024x64 (ix2 r e)) from rfl).trans ?_
  rw [spread_at, logits_at, top_at]

theorem den_at : k0_pay13 (F := Ideal) x w (ix2 r 0) = Choice.den (Choice.row x w r) := by
  unfold k0_pay13 Choice.den
  refine (shapeCast_a_a1_apply _ _ _ _).trans ((Ideal.multiReduction_add_single _ _ _ _ _ _).trans ?_)
  exact Finset.sum_congr rfl fun e _ => (congrArg (k0_pay12 (F := Ideal) x w) (lift_row r _ e)).trans (ex_at x w r e)

/-- A token's gate, -/
theorem gate_at : k0_pay14 (F := Ideal) x w (ix2 r 0) = Choice.gate (Choice.row x w r) := by
  unfold k0_pay14 Choice.gate
  refine (show _ = Ideal.div (Ideal.ofBits .f32 0x3F800000#32) (k0_pay13 (F := Ideal) x w (ix2 r 0)) from rfl).trans ?_
  rw [den_at, Ideal.ofBits_one_f32]

/-- its expert, -/
theorem expert_at : k0_pay15 (F := Ideal) x w (ix2 r 0) = BitVec.ofNat 32 (Choice.arg (Choice.row x w r)).val := by
  unfold k0_pay15
  refine (shapeCast_a_a1_apply _ _ _ _).trans ((multiReductionI_eq_fold _ _ _ _ _ _).trans ?_)
  refine (Shape.Reduces.fold_filter_drop_single _ _ _ _ _).trans ?_
  refine Choice.fold_arg (Choice.row x w r) _ fun e => ?_
  refine (congrArg (select (cmpf (F := Ideal) (φ := .f32) .oeq (k0_pay10 x w) (broadcastTo S1024x64 (k0_pay11 x w) broadcasts_S1024x1_S1024x64))
    (iota .tc S1024x64 32 [1] iota_S1024x64_d1_w32) (broadcast S1024x64 64#32)) (lift_row r _ e)).trans ?_
  have hc : cmpf (F := Ideal) (φ := .f32) .oeq (k0_pay10 x w) (broadcastTo S1024x64 (k0_pay11 x w) broadcasts_S1024x1_S1024x64) (ix2 r e)
      = if Choice.row x w r e = Choice.top (Choice.row x w r) then 1#1 else 0#1 := by
    refine (show _ = FloatOps.cmpf (F := Ideal) (φ := .f32) .oeq (k0_pay10 (F := Ideal) x w (ix2 r e)) (broadcastTo S1024x64 (k0_pay11 x w) broadcasts_S1024x1_S1024x64 (ix2 r e)) from rfl).trans ?_
    rw [spread_at, logits_at, top_at]
    by_cases h : Choice.row x w r e = Choice.top (Choice.row x w r) <;> simp [Ideal.cmpf_def, Ideal.cmp, h]
  refine (show _ = Scalar.select (cmpf (F := Ideal) (φ := .f32) .oeq (k0_pay10 x w) (broadcastTo S1024x64 (k0_pay11 x w) broadcasts_S1024x1_S1024x64) (ix2 r e))
    (iota .tc S1024x64 32 [1] iota_S1024x64_d1_w32 (ix2 r e)) 64#32 from rfl).trans ?_
  rw [hc, iota_single_apply]
  by_cases h : Choice.row x w r e = Choice.top (Choice.row x w r)
  · simp only [if_pos h]; rfl
  · simp only [if_neg h]; rfl

/-- and the one-hot row of it. -/
theorem onehot_at : k0_pay16 (F := Ideal) x w (ix2 r e) = one ((Choice.arg (Choice.row x w r)).val = e.val) := by
  unfold k0_pay16
  refine (show _ = ((((IntOp.cmpi .eq (iota .tc S1024x64 32 [1] iota_S1024x64_d1_w32 (ix2 r e))
    (broadcastTo S1024x64 (k0_pay15 (F := Ideal) x w) broadcasts_S1024x1_S1024x64 (ix2 r e))).setWidth 32).toInt : ℝ) : EReal) from rfl).trans ?_
  rw [spread_at, expert_at, iota_single_apply]
  refine (congrArg (fun v : BitVec 1 => (((v.setWidth 32).toInt : ℝ) : EReal)) (?_ : _ = if (Choice.arg (Choice.row x w r)).val = e.val then 1#1 else 0#1)).trans ?_
  · have hk : (BitVec.ofNat 32 e.val == BitVec.ofNat 32 (Choice.arg (Choice.row x w r)).val) = decide ((Choice.arg (Choice.row x w r)).val = e.val) := by
      rw [Bool.eq_iff_iff, beq_iff_eq, decide_eq_true_iff]
      constructor
      · intro h
        have := congrArg BitVec.toNat h
        rw [BitVec.toNat_ofNat, BitVec.toNat_ofNat, Nat.mod_eq_of_lt (by omega), Nat.mod_eq_of_lt (by omega)] at this
        exact this.symm
      · intro h; rw [h]
    refine (show _ = BitVec.ofBool (BitVec.ofNat 32 e.val == BitVec.ofNat 32 (Choice.arg (Choice.row x w r)).val) from rfl).trans ?_
    rw [hk]
    by_cases h : (Choice.arg (Choice.row x w r)).val = e.val <;> simp [h]
  · unfold one
    by_cases h : (Choice.arg (Choice.row x w r)).val = e.val
    · simp only [if_pos h]; norm_num
    · simp only [if_neg h]; norm_num

/-! ## The running sums -/

variable {G : ℕ → ℕ} {n : ℕ} (hG : ∀ r : Fin 1024, G (n + r.val) = (Choice.arg (Choice.row x w r)).val)
include hG

/-- The hits of 256 of the block's tokens. -/
theorem step_at {o : ℕ} (h : S1024x64.Slices ![o, 0] S256x64) (ho : o + 256 ≤ 1024) :
    amount (Walk.hits G (n + o) e) + shapeCast S1x64 (multiReduction (F := Ideal) (φ := .f32) .add [0] S64
        (extractStridedSlice S256x64 ![o, 0] (k0_pay16 (F := Ideal) x w) h) 0x00000000#32 reduces_S256x64_S64 (.inl rfl) rfl) shapeCasts_S64_S1x64 (ix2 0 e)
      = amount (Walk.hits G (n + (o + 256)) e) := by
  rw [part_at _ h ho e, ← Nat.add_assoc, ← amount_add G (n + o) 256]
  refine congrArg (amount (Walk.hits G (n + o) e) + ·) (Finset.sum_congr rfl fun j _ => ?_)
  rw [onehot_at, ← hG, Nat.add_assoc]

variable {c0 : Vec Ideal S1x64 .f32} (hc : ∀ e : Fin 64, c0 (ix2 0 e) = amount (Walk.hits G n e.val))
include hc

theorem count_1 : k0_pay17 (F := Ideal) x w c0 (ix2 0 e) = amount (Walk.hits G (n + 256) e) := by
  unfold k0_pay17
  refine Eq.trans ?_ (step_at x w e hG slices_S1024x64_o0_0_S256x64 (by omega))
  exact congrArg (· + _) (hc e)
theorem count_2 : k0_pay1 (F := Ideal) (k0_pay17 x w c0) (k0_pay18 x w) (ix2 0 e) = amount (Walk.hits G (n + 512) e) := by
  unfold k0_pay1 k0_pay18
  refine Eq.trans ?_ (step_at x w e hG slices_S1024x64_o256_0_S256x64 (by omega))
  exact congrArg (· + _) (count_1 x w e hG hc)
theorem count_3 : k0_pay2 (F := Ideal) (k0_pay16 x w) (k0_pay17 x w c0) (k0_pay18 x w) (ix2 0 e) = amount (Walk.hits G (n + 768) e) := by
  unfold k0_pay2
  refine Eq.trans ?_ (step_at x w e hG slices_S1024x64_o512_0_S256x64 (by omega))
  exact congrArg (· + _) (count_2 x w e hG hc)
theorem count_4 : k0_pay3 (F := Ideal) (k0_pay16 x w) (k0_pay17 x w c0) (k0_pay18 x w) (ix2 0 e) = amount (Walk.hits G (n + 1024) e) := by
  unfold k0_pay3
  refine Eq.trans ?_ (step_at x w e hG slices_S1024x64_o768_0_S256x64 (by omega))
  exact congrArg (· + _) (count_3 x w e hG hc)

/-- The counts after a block. -/
theorem counts_at : counts (F := Ideal) x w c0 (ix2 0 e) = amount (Walk.hits G (n + 1024) e) := by
  unfold counts k0_pay5
  exact (shapeCast_apply _ _ _ (ix2 0 e) rfl).trans (count_4 x w e hG hc)

/-- The prefixes a block writes: the hits before each 256 of its tokens. -/
theorem prefs_at (hn : n + 1024 ≤ 8192) (q : Fin 4) :
    prefs (F := Ideal) x w c0 (ix3 0 q e) = BitVec.ofNat 32 (Walk.hits G (n + 256 * q.val) e) := by
  unfold prefs k0_pay4
  refine (shapeCast_ab_1ab_apply _ _ _ _ _).trans ?_
  refine (congrArg (Ideal.fptosi 32) (?_ : _ = amount (Walk.hits G (n + 256 * q.val) e))).trans (amount_word ?_)
  · refine (stack_at ![c0, k0_pay17 x w c0, k0_pay1 (k0_pay17 x w c0) (k0_pay18 x w), k0_pay2 (k0_pay16 x w) (k0_pay17 x w c0) (k0_pay18 x w)] _ q e).trans ?_
    match q with
    | ⟨0, _⟩ => exact hc e
    | ⟨1, _⟩ => exact count_1 x w e hG hc
    | ⟨2, _⟩ => exact count_2 x w e hG hc
    | ⟨3, _⟩ => exact count_3 x w e hG hc
  · have := hits_le G (n + 256 * q.val) e
    omega

/-- The loss, from the sums before the block. -/
theorem loss_at (m0 : Vec Ideal S1x64 .f32) :
    loss (F := Ideal) x w c0 m0 (ix2 0 0)
      = (∑ e : Fin 64, probs x w m0 (ix2 0 e) * amount (Walk.hits G (n + 1024) e)) * Ideal.ofBits .f32 0x35800000#32 := by
  unfold loss k0_pay7
  generalize probs x w m0 = p
  have h4 := fun e => count_4 x w e hG hc
  generalize k0_pay3 (F := Ideal) (k0_pay16 x w) (k0_pay17 x w c0) (k0_pay18 x w) = c at h4 ⊢
  refine congrArg (· * Ideal.ofBits .f32 0x35800000#32) ?_
  refine (shapeCast_apply _ shapeCasts_S1_S1x1x1 _ (ix1 0) (by decide)).trans ?_
  refine (Ideal.multiReduction_add_total _ _ _ (by decide) _ _ _).trans ?_
  refine (Fintype.sum_equiv lastAxis _ _ fun _ => rfl).symm.trans (Finset.sum_congr rfl fun e _ => ?_)
  refine (shapeCast_apply _ shapeCasts_S1x64_S1x1x64 _ (ix2 0 e) ?_).trans (congrArg (p (ix2 0 e) * ·) (h4 e))
  rw [Shape.rowMajor_val_two, show lastAxis e = ix3 0 0 e from rfl, Shape.rowMajor_val_three]
  rfl
omit hc hG

/-- The probabilities' sums after a block. -/
theorem probs_at (m0 : Vec Ideal S1x64 .f32) :
    probs (F := Ideal) x w m0 (ix2 0 e) = m0 (ix2 0 e) + ∑ r : Fin 1024, Choice.prob (Choice.row x w r) e := by
  unfold probs k0_pay6
  refine (shapeCast_apply _ _ _ (ix2 0 e) rfl).trans ?_
  refine congrArg (m0 (ix2 0 e) + ·) ((total_at _ e).trans (Finset.sum_congr rfl fun r _ => ?_))
  refine (show _ = Ideal.div (k0_pay12 (F := Ideal) x w (ix2 r e)) (broadcastTo S1024x64 (k0_pay13 (F := Ideal) x w) broadcasts_S1024x1_S1024x64 (ix2 r e)) from rfl).trans ?_
  rw [spread_at, ex_at, den_at]
  rfl

end Cert.Proof.Ker

end
-- ==== Proof.KerWindows.lean ====
/-
  What the router's windows hold when the pipeline has run, over the extended reals.
-/
module

public import proofs.«01_k».proof.Proof.KerMain
public import proofs.«01_k».proof.Proof.KerBlock
public import Idealize.ShloMosaic.Lib.Pipeline.ValueKit.Geometry

@[expose] public section

noncomputable section

namespace Cert.Proof.Ker

open Cert.KernelIdeal Cert.KernelIdeal.Gen Idealize.ShloMosaic Idealize.ShloMosaic.TcCoe Idealize.ShloMosaic.ValueIdx
open Idealize.ShloMosaic.Pipeline (Dat)
open Cert.Proof

variable (m : (ℓ : Loc nD τ sig) → Buf (Elt Ideal) ℓ) (d : Dev nD)

/-- The tokens and the weights as launched. -/
def tokens : Vec Ideal S8192x4096 .f32 := m ((d.tc : Thread nD τ).loc main_arg0)
def weights : Vec Ideal S64x4096 .f32 := m ((d.tc : Thread nD τ).loc main_arg1)

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])
theorem index_3 : ∀ t : Fin cfg0.N, win0_3.index t = ![t.val, 0] := (by decide +kernel : ∀ t : Fin grid0.N, win0_3.index t = ![t.val, 0])
theorem index_4 : ∀ t : Fin cfg0.N, win0_4.index t = ![t.val, 0, 0] := (by decide +kernel : ∀ t : Fin grid0.N, win0_4.index t = ![t.val, 0, 0])
theorem index_5 : ∀ t : Fin cfg0.N, win0_5.index t = ![0, 0] := (by decide +kernel : ∀ t : Fin grid0.N, win0_5.index t = ![0, 0])

theorem points (t : Fin cfg0.N) : t.val < 8 := Nat.lt_of_lt_of_eq t.isLt N_0

/-- A token of a block. -/
def tok (t : Fin cfg0.N) (r : Fin 1024) : Fin 8192 := ⟨1024 * t.val + r.val, by have := points t; omega⟩

theorem xAt_at (t : Fin cfg0.N) (r : Fin 1024) (k : Fin 4096) : xAt m d t (ix2 r k) = tokens m d (ix2 (tok t r) k) := by
  unfold tokens tok
  blk_simp [iblk]
  refine congrArg (m ((d.tc : Thread nD τ).loc main_arg0)) ?_
  blk_ext [index_0]
  exact congrArg (· + r.val) (Nat.mul_comm _ _)

theorem wAt_at (t : Fin cfg0.N) (e : Fin 64) (k : Fin 4096) : wAt m d t (ix2 e k) = weights m d (ix2 e k) := by
  unfold weights
  blk_simp [iblk]
  refine congrArg (m ((d.tc : Thread nD τ).loc main_arg1)) ?_
  blk_ext [index_1]

/-- A token's logits. -/
theorem row_at (t : Fin cfg0.N) (r : Fin 1024) : Choice.row (xAt m d t) (wAt m d t) r = Choice.row (tokens m d) (weights m d) (tok t r) := by
  funext e
  exact Finset.sum_congr rfl fun k _ => congrArg₂ (fun a b : EReal => a * b) (xAt_at m d t r k) (wAt_at m d t e k)

/-! ## The carried sums -/

/-- Which expert token `n` goes to, -/
def routed (n : ℕ) : ℕ := if h : n < 8192 then (Choice.arg (Choice.row (tokens m d) (weights m d) ⟨n, h⟩)).val else 0
/-- and its probability for an expert. -/
def share (e : Fin 64) (n : ℕ) : EReal := if h : n < 8192 then Choice.prob (Choice.row (tokens m d) (weights m d) ⟨n, h⟩) e else 0

theorem routed_tok (t : Fin cfg0.N) (r : Fin 1024) : routed m d (1024 * t.val + r.val) = (Choice.arg (Choice.row (xAt m d t) (wAt m d t) r)).val := by
  unfold routed
  rw [row_at]
  exact dif_pos (tok t r).isLt
theorem share_tok (e : Fin 64) (t : Fin cfg0.N) (r : Fin 1024) :
    share m d e (1024 * t.val + r.val) = Choice.prob (Choice.row (xAt m d t) (wAt m d t) r) e := by
  unfold share
  rw [row_at]
  exact dif_pos (tok t r).isLt

/-- The counts before a point are the hits of the tokens before it, -/
theorem cntAt_at (n : ℕ) (hn : n ≤ 8) (e : Fin 64) : cntAt m d n (ix2 0 e) = amount (Walk.hits (routed m d) (1024 * n) e.val) := by
  induction n generalizing e with
  | zero =>
    refine (show _ = Ideal.ofBits .f32 0x00000000#32 from rfl).trans (Ideal.ofBits_zero_f32.trans ?_)
    simp [amount, Walk.hits]
  | succ n ih =>
    have h : n < cfg0.N := by rw [show cfg0.N = 8 from N_0]; omega
    refine (congrFun (cntAt_succ m d ⟨n, h⟩) _).trans ?_
    exact counts_at _ _ e (fun r => routed_tok m d ⟨n, h⟩ r) (fun e => ih (by omega) e)

/-- and the sums of probabilities are those of the tokens before it. -/
theorem sumAt_at (n : ℕ) (hn : n ≤ 8) (e : Fin 64) : sumAt m d n (ix2 0 e) = ∑ i ∈ Finset.range (1024 * n), share m d e i := by
  induction n with
  | zero => exact (show _ = Ideal.ofBits .f32 0x00000000#32 from rfl).trans Ideal.ofBits_zero_f32
  | succ n ih =>
    have h : n < cfg0.N := by rw [show cfg0.N = 8 from N_0]; omega
    refine (congrFun (sumAt_succ m d ⟨n, h⟩) _).trans ?_
    refine (probs_at _ _ e _).trans ?_
    rw [Nat.mul_succ, Finset.sum_range_add, ← ih (by omega), Finset.sum_range]
    exact congrArg (sumAt m d n (ix2 0 e) + ·) (Finset.sum_congr rfl fun r _ => (share_tok m d e ⟨n, h⟩ r).symm)

/-! ## The windows -/

/-- The experts, -/
theorem left_2 : (left m d 2 : S8192x1.Idx → BitVec 32) = fun i => BitVec.ofNat 32 (Choice.arg (Choice.row (tokens m d) (weights m d) (i 0))).val := by
  refine (dats m 0 d).arrAt_eq_of_covers 2 _ (by decide +kernel) fun t hf y => ?_
  obtain ⟨r, u, rfl⟩ : ∃ (r : Fin 1024) (u : Fin 1), y = ix2 r u := ⟨y 0, y 1, eq_ix2 (n0 := 1024) (n1 := 1) y⟩
  obtain rfl : u = 0 := Subsingleton.elim _ _
  blk_simp
  rw [after_2]
  refine (expert_at _ _ r).trans ?_
  rw [row_at]
  refine congrArg (fun t => BitVec.ofNat 32 (Choice.arg (Choice.row (tokens m d) (weights m d) t)).val) (Fin.ext ?_)
  blk_simp [index_2]
  exact congrArg (· + r.val) (Nat.mul_comm _ _)

/-- the gates, -/
theorem left_3 : (left m d 3 : S8192x1.Idx → EReal) = fun i => Choice.gate (Choice.row (tokens m d) (weights m d) (i 0)) := by
  refine (dats m 0 d).arrAt_eq_of_covers 3 _ (by decide +kernel) fun t hf y => ?_
  obtain ⟨r, u, rfl⟩ : ∃ (r : Fin 1024) (u : Fin 1), y = ix2 r u := ⟨y 0, y 1, eq_ix2 (n0 := 1024) (n1 := 1) y⟩
  obtain rfl : u = 0 := Subsingleton.elim _ _
  blk_simp
  rw [after_3]
  refine (gate_at _ _ r).trans ?_
  rw [row_at]
  refine congrArg (fun t => Choice.gate (Choice.row (tokens m d) (weights m d) t)) (Fin.ext ?_)
  blk_simp [index_3]
  exact congrArg (· + r.val) (Nat.mul_comm _ _)

/-- the prefixes: the hits before each 256 tokens, -/
theorem left_4 : (left m d 4 : S8x4x64.Idx → BitVec 32)
    = fun i => BitVec.ofNat 32 (Walk.hits (routed m d) (1024 * (i 0).val + 256 * (i 1).val) (i 2).val) := by
  refine (dats m 0 d).arrAt_eq_of_covers 4 _ (by decide +kernel) fun t hf y => ?_
  obtain ⟨u, q, e, rfl⟩ : ∃ (u : Fin 1) (q : Fin 4) (e : Fin 64), y = ix3 u q e := ⟨y 0, y 1, y 2, eq_ix3 (n0 := 1) (n1 := 4) (n2 := 64) y⟩
  obtain rfl : u = 0 := Subsingleton.elim _ _
  have ht := points t
  blk_simp
  rw [after_4]
  refine (prefs_at _ _ e (fun r => routed_tok m d t r) (fun e => cntAt_at m d t.val (by omega) e) (by omega) q).trans ?_
  rw [index_4]
  refine (show _ = BitVec.ofNat 32 (Walk.hits (routed m d) (1024 * t.val + 256 * (0 * 4 + q.val)) (0 * 64 + e.val)) from ?_).trans rfl
  simp only [Nat.zero_mul, Nat.zero_add]

/-- and the loss. -/
theorem left_5 : (left m d 5 : S1x1.Idx → EReal)
    = fun _ => (∑ e : Fin 64, (∑ i ∈ Finset.range 8192, share m d e i) * amount (Walk.hits (routed m d) 8192 e.val)) * Ideal.ofBits .f32 0x35800000#32 := by
  refine (dats m 0 d).arrAt_eq_of_covers 5 _ (by decide +kernel) fun t hf y => ?_
  obtain ⟨a, b, rfl⟩ : ∃ (a : Fin 1) (b : Fin 1), y = ix2 a b := ⟨y 0, y 1, eq_ix2 (n0 := 1) (n1 := 1) y⟩
  obtain rfl : a = 0 := Subsingleton.elim _ _
  obtain rfl : b = 0 := Subsingleton.elim _ _
  have ht := points t
  have h7 : t.val = 7 := by
    have := (flush0_5 t).mp hf
    omega
  blk_simp
  rw [after_5]
  refine (loss_at _ _ (fun r => routed_tok m d t r) (fun e => cntAt_at m d t.val (by omega) e) _).trans ?_
  refine congrArg (· * Ideal.ofBits .f32 0x35800000#32) (Finset.sum_congr rfl fun e _ => ?_)
  rw [← sumAt_succ, sumAt_at m d _ (by omega), h7]

/-! ## What the SparseCore call is given, and what it leaves -/

/-- The experts the call is given. -/
theorem fi_at (t : Fin 8192) : (fi m d : S8192.Idx → BitVec 32) (ix1 t) = BitVec.ofNat 32 (routed m d t.val) := by
  unfold fi fiOf
  rw [left_2]
  refine (shapeCast_apply _ shapeCasts_S8192x1_S8192 (ix1 t) (ix2 t 0) ?_).trans ?_
  · rw [Shape.rowMajor_val_two, Shape.rowMajor_val_one]
    exact (Nat.add_zero _).trans (Nat.mul_one _)
  · unfold routed
    rw [dif_pos t.isLt]
    rfl

theorem routed_lt (n : ℕ) : routed m d n < 64 := by
  unfold routed
  split
  · exact Fin.isLt _
  · decide

theorem fi_nat (t : Fin 8192) : ((fi m d : S8192.Idx → BitVec 32) (ix1 t)).toNat = routed m d t.val := by
  rw [fi_at, BitVec.toNat_ofNat]
  exact Nat.mod_eq_of_lt ((routed_lt m d _).trans (by decide))

/-- They are all experts. -/
theorem inRange : InRange (fi m) := fun d x => by
  rw [eq_ix1 (n := 8192) x]
  exact (fi_nat m d (x 0)).trans_lt (routed_lt m d _)

/-- The prefixes the call is given: the hits before each 256 tokens. -/
theorem fp_at (b : Fin 32) (e : Fin 64) : (fp m d : S32x64.Idx → BitVec 32) (ix2 b e) = BitVec.ofNat 32 (Walk.hits (routed m d) (256 * b.val) e.val) := by
  unfold fp fpOf
  rw [left_4]
  refine (shapeCast_apply _ shapeCasts_S8x4x64_S32x64 (ix2 b e) (ix3 (⟨b.val / 4, by omega⟩ : Fin 8) (⟨b.val % 4, by omega⟩ : Fin 4) e) ?_).trans ?_
  · rw [Shape.rowMajor_val_two, Shape.rowMajor_val_three]
    exact congrArg (· * 64 + e.val) (by show b.val / 4 * 4 + b.val % 4 = b.val; omega)
  · refine congrArg (fun n => BitVec.ofNat 32 (Walk.hits (routed m d) n e.val)) ?_
    show 1024 * (b.val / 4) + 256 * (b.val % 4) = 256 * b.val
    omega

/-- The locations the call leaves: the hits of a token's expert before it. -/
theorem out_at (t : Fin 8192) :
    (out (fi m) (fp m) d : S8192.Idx → BitVec 32) (ix1 t) = BitVec.ofNat 32 (Walk.hits (routed m d) t.val (routed m d t.val)) := by
  have hi : ∀ n : ℕ, 256 * (t.val / 256) + n < 8192 → Walk.idsOf (fi m d) (t.val / 256) n = routed m d (256 * (t.val / 256) + n) := fun n hn =>
    (Walk.idsOf_eq (fi m d) (x := ix1 (⟨256 * (t.val / 256) + n, hn⟩ : Fin 8192)) rfl).trans (fi_nat m d ⟨_, hn⟩)
  have ht : 256 * (t.val / 256) + t.val % 256 = t.val := Nat.div_add_mod _ _
  have hq := hi (t.val % 256) (by omega)
  rw [ht] at hq
  have hs := Walk.startOf_eq (fp m d) (x := ix2 (⟨t.val / 256, by omega⟩ : Fin 32) (⟨routed m d t.val, routed_lt m d _⟩ : Fin 64)) rfl rfl
  refine (show _ = Walk.rank (Walk.startOf (fp m d) (t.val / 256)) (Walk.idsOf (fi m d) (t.val / 256)) (t.val % 256) from rfl).trans ?_
  unfold Walk.rank Walk.counter
  rw [hq, hs, fp_at, BitVec.ofNat_add_ofNat]
  refine congrArg (BitVec.ofNat 32) ?_
  have ha := Walk.hits_add (routed m d) (256 * (t.val / 256)) (t.val % 256) (routed m d t.val)
  rw [ht] at ha
  rw [ha]
  refine congrArg (Walk.hits (routed m d) (256 * (t.val / 256)) (routed m d t.val) + ·) ?_
  refine congrArg Finset.card (Finset.filter_congr fun n hn => ?_)
  have := Finset.mem_range.mp hn
  rw [hi n (by omega)]

end Cert.Proof.Ker

end
-- ==== Proof.RefRun.lean ====
/-
  The plain reference's run: @main is the list of its operations, and its six results are the terms named here.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The logits. -/
def lg (x : Vec F S8192x4096 .f32) (w : Vec F S64x4096 .f32) : Vec F S8192x64 .f32 :=
  Host.dotGeneral dot_S8192x4096_S4096x64_S8192x64_1_0_0_1_n_n none x (transpose S4096x64 [1, 0] w transposes_S64x4096_S4096x64_1_0)

/-- Each token's expert: the arg-max of its logits. -/
def ids (l : Vec F S8192x64 .f32) : IVec S8192 32 := fun j =>
  (Host.argReduce reducer_argmax_f32_i32 l (iotaInDim S8192x64 32 1) (constant S_ .f32 0xFF800000#32) (constantI S_ 32 0#32)
    reducesTo_S8192x64_S8192_d1 h_S_ j).2

/-- The one-hot rows of the tokens' experts. -/
def hot (i : IVec S8192 32) : IVec S8192x64 32 :=
  extui 32 (cmpi .eq
    (broadcastInDim S8192x64 ![0, 1] bcast_S8192x1_S8192x64_0_1 (broadcastInDim S8192x1 ![0] bcast_S8192_S8192x1_0 i))
    (broadcastInDim S8192x64 ![0, 1] bcast_S1x64_S8192x64_0_1 (iotaInDim S1x64 32 1))) natLt_1_32

/-- A token's value on every expert of its row. -/
def spread (v : Vec F S8192 .f32) : Vec F S8192x64 .f32 :=
  broadcastInDim S8192x64 ![0, 1] bcast_S8192x1_S8192x64_0_1 (broadcastInDim S8192x1 ![0] bcast_S8192_S8192x1_0 v)

/-- Each token's greatest logit. -/
def top (l : Vec F S8192x64 .f32) : Vec F S8192 .f32 :=
  maximumf (broadcastInDim S8192 ![] bcast_S_S8192 (constant S_ .f32 0xFF800000#32))
    (Host.reduce FloatOps.maximumf l (constant S_ .f32 0xFF800000#32) reducesTo_S8192x64_S8192_d1 h_S_)

/-- The exponentials of the logits less the greatest. -/
def ex (l : Vec F S8192x64 .f32) : Vec F S8192x64 .f32 := Host.exp (subf l (spread (top l)))

/-- The softmax of the logits. -/
def soft (l : Vec F S8192x64 .f32) : Vec F S8192x64 .f32 :=
  Host.divf (ex l) (spread (Host.reduceAdd (ex l) (constant S_ .f32 0x00000000#32) reducesTo_S8192x64_S8192_d1 h_S_))

/-- The tokens' gates. -/
def gate (l : Vec F S8192x64 .f32) : Vec F S8192 .f32 :=
  Host.reduceAdd (mulf (soft l) (sitofp .f32 (hot (ids l)))) (constant S_ .f32 0x00000000#32) reducesTo_S8192x64_S8192_d1 h_S_

/-- The running count of the one-hot rows, down the tokens. -/
def running (h : IVec S8192x64 32) : IVec S8192x64 32 :=
  Host.reduceWindow IntOp.addi ![8192, 1] ![1, 1] ![8191, 0] ![0, 0] h (broadcastInDim S_ ![] bcast_S_S_ (constantI S_ 32 0#32))
    reduceWindows_S8192x64_S8192x64_w8192s1p8191_0_w1s1p0_0 h_S_

/-- The tokens' places at their experts. -/
def locs (h : IVec S8192x64 32) : IVec S8192 32 :=
  Host.reduce IntOp.addi (muli (subi (running h) (broadcastInDim S8192x64 ![] bcast_S_S8192x64 (constantI S_ 32 1#32))) h)
    (constantI S_ 32 0#32) reducesTo_S8192x64_S8192_d1 h_S_

/-- The balancing loss. -/
def loss (l : Vec F S8192x64 .f32) : Vec F S_ .f32 :=
  mulf (Host.reduceAdd
      (mulf (Host.reduceAdd (soft l) (constant S_ .f32 0x00000000#32) reducesTo_S8192x64_S64_d0 h_S_)
        (Host.reduceAdd (sitofp .f32 (hot (ids l))) (constant S_ .f32 0x00000000#32) reducesTo_S8192x64_S64_d0 h_S_))
      (constant S_ .f32 0x00000000#32) reducesTo_S64_S_d0 h_S_)
    (constant S_ .f32 0x35800000#32)

/-- @main's operations in order, a called function's in its call's place. -/
abbrev ops : List (HloOp τ sig (Elt F)) :=
  [ unary main_arg1 main_v0 ((transpose S4096x64 [1, 0] · transposes_S64x4096_S4096x64_1_0) : (⟨S64x4096, .f32⟩ : BufTy).Contents (Elt F) → (⟨S4096x64, .f32⟩ : BufTy).Contents (Elt F)),
    binary main_arg0 main_v0 main_v1 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    TRef.nullary (TRef.of (T := ⟨S8192x64, .i32⟩) main_call0_v0) (iotaInDim S8192x64 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8192x64, .f32⟩) main_v1) (TRef.of (T := ⟨S8192x64, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmax_f32_i32 x y u v reducesTo_S8192x64_S8192_d1 h_S_ j).1),
    TRef.quaternary (TRef.of (T := ⟨S8192x64, .f32⟩) main_v1) (TRef.of (T := ⟨S8192x64, .i32⟩) main_call0_v0) (TRef.of (T := ⟨S_, .f32⟩) main_call0_cst) (TRef.of (T := ⟨S_, .i32⟩) main_call0_c) (TRef.of (T := ⟨S8192, .i32⟩) main_v2) (fun x y u v j => (Host.argReduce reducer_argmax_f32_i32 x y u v reducesTo_S8192x64_S8192_d1 h_S_ j).2),
    TRef.unary (TRef.of (T := ⟨S8192, .i32⟩) main_v2) (TRef.of (T := ⟨S8192x1, .i32⟩) main_call1_v0) (broadcastInDim S8192x1 ![0] bcast_S8192_S8192x1_0),
    TRef.nullary (TRef.of (T := ⟨S1x64, .i32⟩) main_call1_v1) (iotaInDim S1x64 32 1),
    TRef.unary (TRef.of (T := ⟨S8192x1, .i32⟩) main_call1_v0) (TRef.of (T := ⟨S8192x64, .i32⟩) main_call1_v2) (broadcastInDim S8192x64 ![0, 1] bcast_S8192x1_S8192x64_0_1),
    TRef.unary (TRef.of (T := ⟨S1x64, .i32⟩) main_call1_v1) (TRef.of (T := ⟨S8192x64, .i32⟩) main_call1_v3) (broadcastInDim S8192x64 ![0, 1] bcast_S1x64_S8192x64_0_1),
    TRef.binary (TRef.of (T := ⟨S8192x64, .i32⟩) main_call1_v2) (TRef.of (T := ⟨S8192x64, .i32⟩) main_call1_v3) (TRef.of (T := ⟨S8192x64, .i1⟩) main_call1_v4) (cmpi .eq),
    TRef.unary (TRef.of (T := ⟨S8192x64, .i1⟩) main_call1_v4) (TRef.of (T := ⟨S8192x64, .i32⟩) main_v3) (extui 32 · natLt_1_32),
    nullary main_cst (constant S_ .f32 0xFF800000#32),
    binary main_v1 main_cst main_v4 ((fun x v => Host.reduce FloatOps.maximumf x v reducesTo_S8192x64_S8192_d1 h_S_) : (⟨S8192x64, .f32⟩ : BufTy).Contents (Elt F) → (⟨S_, .f32⟩ : BufTy).Contents (Elt F) → (⟨S8192, .f32⟩ : BufTy).Contents (Elt F)),
    nullary main_cst_0 (constant S_ .f32 0xFF800000#32),
    unary main_cst_0 main_v5 (broadcastInDim S8192 ![] bcast_S_S8192 : (⟨S_, .f32⟩ : BufTy).Contents (Elt F) → (⟨S8192, .f32⟩ : BufTy).Contents (Elt F)),
    binary main_v5 main_v4 main_v6 (maximumf : (⟨S8192, .f32⟩ : BufTy).Contents (Elt F) → (⟨S8192, .f32⟩ : BufTy).Contents (Elt F) → (⟨S8192, .f32⟩ : BufTy).Contents (Elt F)),
    unary main_v6 main_v7 (broadcastInDim S8192x1 ![0] bcast_S8192_S8192x1_0 : (⟨S8192, .f32⟩ : BufTy).Contents (Elt F) → (⟨S8192x1, .f32⟩ : BufTy).Contents (Elt F)),
    unary main_v7 main_v8 (broadcastInDim S8192x64 ![0, 1] bcast_S8192x1_S8192x64_0_1 : (⟨S8192x1, .f32⟩ : BufTy).Contents (Elt F) → (⟨S8192x64, .f32⟩ : BufTy).Contents (Elt F)),
    binary main_v1 main_v8 main_v9 (subf : (⟨S8192x64, .f32⟩ : BufTy).Contents (Elt F) → (⟨S8192x64, .f32⟩ : BufTy).Contents (Elt F) → (⟨S8192x64, .f32⟩ : BufTy).Contents (Elt F)),
    unary main_v9 main_v10 (Host.exp : (⟨S8192x64, .f32⟩ : BufTy).Contents (Elt F) → (⟨S8192x64, .f32⟩ : BufTy).Contents (Elt F)),
    nullary main_cst_1 (constant S_ .f32 0x00000000#32),
    binary main_v10 main_cst_1 main_v11 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v11 main_v12 (broadcastInDim S8192x1 ![0] bcast_S8192_S8192x1_0 : (⟨S8192, .f32⟩ : BufTy).Contents (Elt F) → (⟨S8192x1, .f32⟩ : BufTy).Contents (Elt F)),
    unary main_v12 main_v13 (broadcastInDim S8192x64 ![0, 1] bcast_S8192x1_S8192x64_0_1 : (⟨S8192x1, .f32⟩ : BufTy).Contents (Elt F) → (⟨S8192x64, .f32⟩ : BufTy).Contents (Elt F)),
    binary main_v10 main_v13 main_v14 (Host.divf : (⟨S8192x64, .f32⟩ : BufTy).Contents (Elt F) → (⟨S8192x64, .f32⟩ : BufTy).Contents (Elt F) → (⟨S8192x64, .f32⟩ : BufTy).Contents (Elt F)),
    unary main_v3 main_v15 (sitofp .f32 : (⟨S8192x64, .i32⟩ : BufTy).Contents (Elt F) → (⟨S8192x64, .f32⟩ : BufTy).Contents (Elt F)),
    binary main_v14 main_v15 main_v16 (mulf : (⟨S8192x64, .f32⟩ : BufTy).Contents (Elt F) → (⟨S8192x64, .f32⟩ : BufTy).Contents (Elt F) → (⟨S8192x64, .f32⟩ : BufTy).Contents (Elt F)),
    nullary main_cst_2 (constant S_ .f32 0x00000000#32),
    binary main_v16 main_cst_2 main_v17 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    TRef.nullary (TRef.of (T := ⟨S_, .i32⟩) main_call2_call0_c) (constantI S_ 32 0#32),
    TRef.unary (TRef.of (T := ⟨S_, .i32⟩) main_call2_call0_c) (TRef.of (T := ⟨S_, .i32⟩) main_call2_call0_v0) (broadcastInDim S_ ![] bcast_S_S_),
    TRef.binary (TRef.of (T := ⟨S8192x64, .i32⟩) main_v3) (TRef.of (T := ⟨S_, .i32⟩) main_call2_call0_v0) (TRef.of (T := ⟨S8192x64, .i32⟩) main_v18) (fun x v => Host.reduceWindow IntOp.addi ![8192, 1] ![1, 1] ![8191, 0] ![0, 0] x v reduceWindows_S8192x64_S8192x64_w8192s1p8191_0_w1s1p0_0 h_S_),
    nullary main_c (constantI S_ 32 1#32),
    unary main_c main_v19 (broadcastInDim S8192x64 ![] bcast_S_S8192x64 : (⟨S_, .i32⟩ : BufTy).Contents (Elt F) → (⟨S8192x64, .i32⟩ : BufTy).Contents (Elt F)),
    binary main_v18 main_v19 main_v20 (subi : (⟨S8192x64, .i32⟩ : BufTy).Contents (Elt F) → (⟨S8192x64, .i32⟩ : BufTy).Contents (Elt F) → (⟨S8192x64, .i32⟩ : BufTy).Contents (Elt F)),
    binary main_v20 main_v3 main_v21 (muli : (⟨S8192x64, .i32⟩ : BufTy).Contents (Elt F) → (⟨S8192x64, .i32⟩ : BufTy).Contents (Elt F) → (⟨S8192x64, .i32⟩ : BufTy).Contents (Elt F)),
    nullary main_c_3 (constantI S_ 32 0#32),
    binary main_v21 main_c_3 main_v22 ((fun x v => Host.reduce IntOp.addi x v reducesTo_S8192x64_S8192_d1 h_S_) : (⟨S8192x64, .i32⟩ : BufTy).Contents (Elt F) → (⟨S_, .i32⟩ : BufTy).Contents (Elt F) → (⟨S8192, .i32⟩ : BufTy).Contents (Elt F)),
    nullary main_cst_4 (constant S_ .f32 0x00000000#32),
    binary main_v14 main_cst_4 main_v23 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    unary main_v3 main_v24 (sitofp .f32 : (⟨S8192x64, .i32⟩ : BufTy).Contents (Elt F) → (⟨S8192x64, .f32⟩ : BufTy).Contents (Elt F)),
    nullary main_cst_5 (constant S_ .f32 0x00000000#32),
    binary main_v24 main_cst_5 main_v25 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    binary main_v23 main_v25 main_v26 (mulf : (⟨S64, .f32⟩ : BufTy).Contents (Elt F) → (⟨S64, .f32⟩ : BufTy).Contents (Elt F) → (⟨S64, .f32⟩ : BufTy).Contents (Elt F)),
    nullary main_cst_6 (constant S_ .f32 0x00000000#32),
    binary main_v26 main_cst_6 main_v27 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_7 (constant S_ .f32 0x35800000#32),
    binary main_v27 main_cst_7 main_v28 (mulf : (⟨S_, .f32⟩ : BufTy).Contents (Elt F) → (⟨S_, .f32⟩ : BufTy).Contents (Elt F) → (⟨S_, .f32⟩ : BufTy).Contents (Elt F)),
    nullary main_c_8 (constantI S_ 32 128#32),
    nullary main_c_9 (constantI S_ 32 64#32) ]

theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., nullary_bufs_sub .., binary_bufs_sub .., binary_bufs_sub .., nullary_bufs_sub .., binary_bufs_sub .., nullary_bufs_sub .., binary_bufs_sub .., nullary_bufs_sub .., nullary_bufs_sub ..⟩

set_option maxHeartbeats 4000000 in
/-- Every run ends with the six results at these terms of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = loss (lg (m ((c.tc : Thread nD τ).loc main_arg0)) (m ((c.tc : Thread nD τ).loc main_arg1)))
      ∧ r.2.mem ((c.tc : Thread nD τ).loc main_c_8) = constantI S_ 32 128#32
      ∧ r.2.mem ((c.tc : Thread nD τ).loc main_c_9) = constantI S_ 32 64#32
      ∧ r.2.mem ((c.tc : Thread nD τ).loc main_v2)
          = ids (lg (m ((c.tc : Thread nD τ).loc main_arg0)) (m ((c.tc : Thread nD τ).loc main_arg1)))
      ∧ r.2.mem ((c.tc : Thread nD τ).loc main_v22)
          = locs (hot (ids (lg (m ((c.tc : Thread nD τ).loc main_arg0)) (m ((c.tc : Thread nD τ).loc main_arg1)))))
      ∧ r.2.mem ((c.tc : Thread nD τ).loc main_v17)
          = gate (lg (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c main_v28).trans ?_, (h c main_c_8).trans ?_, (h c main_c_9).trans ?_,
    (h c main_v2).trans ?_, (h c main_v22).trans ?_, (h c main_v17).trans ?_, (h c main_arg0).trans ?_, (h c main_arg1).trans ?_⟩)
    (run_seq scopedRefs_eq scopedSems_eq defs main (fun _ => ops) main_eq (fun _ => ops_sub) m ρ)
  all_goals
    simp only [ops, TRef.binary, TRef.nullary, TRef.unary, TRef.quaternary, TRef.toBuf, TRef.ofBuf, cast_eq]
    after_results_simp <;> rfl

end Cert.Proof.Ref

end
-- ==== Proof.RefValue.lean ====
/-
  The plain reference's results over the extended reals, token by token.
-/
module

public import proofs.«01_k».proof.Proof.RefRun
public import proofs.«01_k».proof.Proof.Choice
public import proofs.«01_k».proof.Proof.Sums
public import Idealize.ShloMosaic.Lib.IdealHost
public import Idealize.ShloMosaic.Lib.Pipeline.Value
public import Idealize.ShloMosaic.Lib.ValueLayout
public import Idealize.ShloMosaic.Lib.ValueIdxRank1

@[expose] public section

noncomputable section

namespace Cert.Proof.Ref

open Cert.ReferenceIdeal Cert.ReferenceIdeal.Gen Idealize.ShloMosaic Idealize.ShloMosaic.ValueIdx Idealize.ShloMosaic.Routing
open Cert.Proof

/-- A token's row of a table. -/
def rowOf (l : Vec Ideal S8192x64 .f32) (t : Fin 8192) : Choice.Row := fun e => l (ix2 t e)

/-- The logits of a token. -/
theorem lg_at (x : Vec Ideal S8192x4096 .f32) (w : Vec Ideal S64x4096 .f32) (t : Fin 8192) : rowOf (lg x w) t = Choice.row x w t := by
  funext e
  unfold rowOf lg Choice.row
  simp only [Host.dotGeneral]
  refine (Ideal.dotGeneral_apply _ _ _ _ _ _).trans ?_
  rw [← Equiv.sum_comp (contrEquiv1 dot_S8192x4096_S4096x64_S8192x64_1_0_0_1_n_n 4096 rfl rfl).symm]
  refine Finset.sum_congr rfl fun k _ => congrArg₂ _ (congrArg x ?_) ?_
  · funext a
    match a with
    | ⟨0, _⟩ => rfl
    | ⟨1, _⟩ => exact Fin.ext (contrEquiv1_symm_val dot_S8192x4096_S4096x64_S8192x64_1_0_0_1_n_n 4096 rfl rfl k)
  · refine transpose_apply _ _ _ _ (ix2 e k) fun a => ?_
    match a with
    | ⟨1, _⟩ => rfl
    | ⟨0, _⟩ => exact (contrEquiv1_symm_val dot_S8192x4096_S4096x64_S8192x64_1_0_0_1_n_n 4096 rfl rfl k).symm

theorem lift_row (t : Fin 8192) (h : S8192x64.Reduces [1] S8192) (e : Fin 64) : h.lift (ix1 t) e = ix2 t e := by
  funext a
  match a with
  | ⟨0, _⟩ => rfl
  | ⟨1, _⟩ => rfl

theorem lift_col (e : Fin 64) (h : S8192x64.Reduces [0] S64) (t : Fin 8192) : h.lift (ix1 e) t = ix2 t e := by
  funext a
  match a with
  | ⟨0, _⟩ => rfl
  | ⟨1, _⟩ => rfl

/-- A sum along a token's row, -/
theorem sum_row (v : Vec Ideal S8192x64 .f32) (t : Fin 8192) :
    Host.reduceAdd (F := Ideal) (φ := .f32) v (constant S_ .f32 0x00000000#32) reducesTo_S8192x64_S8192_d1 h_S_ (ix1 t) = ∑ e : Fin 64, v (ix2 t e) := by
  rw [hostReduceAdd_apply, Ideal.hostReduceAdd_single _ (by decide)]
  refine (congrArg (· + _) (show constant (F := Ideal) S_ .f32 0x00000000#32 (Shape.Idx.first h_S_) = 0 from Ideal.ofBits_zero_f32)).trans ((zero_add _).trans ?_)
  exact Finset.sum_congr rfl fun e _ => congrArg v (lift_row t _ e)

/-- and down an expert's column. -/
theorem sum_col (v : Vec Ideal S8192x64 .f32) (e : Fin 64) :
    Host.reduceAdd (F := Ideal) (φ := .f32) v (constant S_ .f32 0x00000000#32) reducesTo_S8192x64_S64_d0 h_S_ (ix1 e) = ∑ t : Fin 8192, v (ix2 t e) := by
  rw [hostReduceAdd_apply, Ideal.hostReduceAdd_single _ (by decide)]
  refine (congrArg (· + _) (show constant (F := Ideal) S_ .f32 0x00000000#32 (Shape.Idx.first h_S_) = 0 from Ideal.ofBits_zero_f32)).trans ((zero_add _).trans ?_)
  exact Finset.sum_congr rfl fun t _ => congrArg v (lift_col e _ t)

theorem bottom : Ideal.ofBits .f32 0xFF800000#32 = ⊥ := by simp [Ideal.ofBits, Ideal.ieee]

theorem top_at (l : Vec Ideal S8192x64 .f32) (t : Fin 8192) : top l (ix1 t) = Choice.top (rowOf l t) := by
  unfold top
  refine (show _ = max (Ideal.ofBits .f32 0xFF800000#32) _ from rfl).trans ?_
  rw [bottom, max_eq_right bot_le]
  refine (Host.reduce_eq_fold_single (FloatOps.maximumf (F := Ideal) (φ := .f32)) l _ reducesTo_S8192x64_S8192_d1 (by decide) h_S_ _).trans ?_
  refine (congrArg₂ (fun b f => (Finset.univ : Finset (Fin 64)).fold max b f)
    (show constant (F := Ideal) S_ .f32 0xFF800000#32 (Shape.Idx.first h_S_) = ⊥ from bottom) (funext fun e => congrArg l (lift_row t _ e)))

theorem spread_at (v : Vec Ideal S8192 .f32) (t : Fin 8192) (e : Fin 64) : spread v (ix2 t e) = v (ix1 t) := by
  unfold spread
  refine congrArg v ?_
  funext a
  match a with
  | ⟨0, _⟩ => rfl

theorem ex_at (l : Vec Ideal S8192x64 .f32) (t : Fin 8192) (e : Fin 64) : ex l (ix2 t e) = Choice.ex (rowOf l t) e := by
  unfold ex
  have h := spread_at (top l) t e
  rw [top_at] at h
  exact congrArg (fun v => Ideal.exp (l (ix2 t e) - v)) h

theorem soft_at (l : Vec Ideal S8192x64 .f32) (t : Fin 8192) (e : Fin 64) : soft l (ix2 t e) = Choice.prob (rowOf l t) e := by
  unfold soft
  rw [hostDivf_apply, spread_at, sum_row, ex_at]
  exact congrArg (Ideal.div _) (Finset.sum_congr rfl fun e _ => ex_at l t e)

open scoped Classical in
/-- The reducer keeps the better pair. -/
theorem better_eq (a b : EReal × BitVec 32) (ha : a.2.toNat < 64) (hb : b.2.toNat < 64) :
    reducer_argmax_f32_i32 (F := Ideal) a b = if Choice.Better a b then a else b := by
  have ta : a.2.toInt = a.2.toNat := by rw [BitVec.toInt_eq_toNat_of_lt]; omega
  have tb : b.2.toInt = b.2.toNat := by rw [BitVec.toInt_eq_toNat_of_lt]; omega
  have hs : a.2.slt b.2 = decide (a.2.toNat < b.2.toNat) := by
    rw [BitVec.slt_eq_decide, ta, tb]; simp
  unfold reducer_argmax_f32_i32 Choice.Better
  simp only [Ideal.cmpf_def, Ideal.cmp, Scalar.select, IntOp.cmpi, hs]
  rcases lt_trichotomy a.1 b.1 with h | h | h
  · simp [h, h.ne, h.not_gt, IntOp.ori, IntOp.andi]
  · by_cases h2 : a.2.toNat < b.2.toNat
    · simp [h, h2, IntOp.ori, IntOp.andi, Prod.ext_iff]
    · simp [h, h2, IntOp.ori, IntOp.andi, Prod.ext_iff]
  · simp [h, h.ne', h.not_gt, IntOp.ori, IntOp.andi]

/-- The pairs of a token's row. -/
theorem mem_fiber (l : Vec Ideal S8192x64 .f32) (t : Fin 8192) (p : EReal × BitVec 32) :
    p ∈ Host.argReduceFiber l (iotaInDim S8192x64 32 1) reducesTo_S8192x64_S8192_d1 (ix1 t)
      ↔ ∃ e : Fin 64, p = (rowOf l t e, BitVec.ofNat 32 e.val) := by
  unfold Host.argReduceFiber
  rw [List.mem_map]
  constructor
  · rintro ⟨n, hn, rfl⟩
    have hd := of_decide_eq_true (List.mem_filter.1 hn).2
    generalize S8192x64.rowMajor.symm n = i at hd ⊢
    have h0 : i 0 = t := congrFun hd 0
    refine ⟨i 1, ?_⟩
    rw [show i = ix2 t (i 1) from h0 ▸ eq_ix2 i]
    rfl
  · rintro ⟨e, rfl⟩
    refine ⟨S8192x64.rowMajor (ix2 t e), List.mem_filter.2 ⟨List.mem_finRange _, decide_eq_true ?_⟩, ?_⟩
    · rw [Equiv.symm_apply_apply]
      funext a
      match a with
      | ⟨0, _⟩ => rfl
    · rw [Equiv.symm_apply_apply]; rfl

/-- The expert a token is routed to. -/
theorem ids_at (l : Vec Ideal S8192x64 .f32) (t : Fin 8192) : ids l (ix1 t) = BitVec.ofNat 32 (Choice.arg (rowOf l t)).val := by
  unfold ids
  rw [Ideal.argReduce_eq_reduce2, Host.reduce2_eq_foldl_fiber]
  have hp := mem_fiber l t
  generalize Host.argReduceFiber l (iotaInDim S8192x64 32 1) reducesTo_S8192x64_S8192_d1 (ix1 t) = L at hp ⊢
  have hb : (constant (F := Ideal) S_ .f32 0xFF800000#32 (Shape.Idx.first h_S_), constantI S_ 32 0#32 (Shape.Idx.first h_S_)) = ((⊥ : EReal), 0#32) :=
    Prod.ext bottom rfl
  refine (congrArg (fun r => (List.foldl reducer_argmax_f32_i32 r L).2) hb).trans ?_
  refine Choice.fold_pairs (rowOf l t) _ (fun a b ha hb => ?_) L hp
  exact better_eq a b ha hb

theorem ids_toNat (l : Vec Ideal S8192x64 .f32) (t : Fin 8192) : (ids l (ix1 t)).toNat = (Choice.arg (rowOf l t)).val := by
  rw [ids_at, BitVec.toNat_ofNat]; exact Nat.mod_eq_of_lt (by omega)

theorem hot_at (i : IVec S8192 32) (t : Fin 8192) (e : Fin 64) :
    hot i (ix2 t e) = BitVec.ofNat 32 (if (i (ix1 t)).toNat = e.val then 1 else 0) := by
  unfold hot
  refine (show _ = (IntOp.cmpi .eq (i _) (BitVec.ofNat 32 e.val)).setWidth 32 from rfl).trans ?_
  refine (Walk.hot_word _ e.isLt).trans (congrArg (fun v => BitVec.ofNat 32 (if (i v).toNat = e.val then 1 else 0)) ?_)
  funext a
  match a with
  | ⟨0, _⟩ => rfl

/-- A one-hot word as a real. -/
theorem hot_real (l : Vec Ideal S8192x64 .f32) (t : Fin 8192) (e : Fin 64) :
    sitofp (F := Ideal) .f32 (hot (ids l)) (ix2 t e) = (((if Choice.arg (rowOf l t) = e then 1 else 0 : ℝ)) : EReal) := by
  refine (show _ = (((hot (ids l) (ix2 t e)).toInt : ℝ) : EReal) from rfl).trans ?_
  rw [hot_at, ids_toNat]
  by_cases h : Choice.arg (rowOf l t) = e
  · rw [if_pos h, if_pos (congrArg Fin.val h)]; norm_num
  · rw [if_neg h, if_neg fun q => h (Fin.ext q)]; norm_num

/-- The tokens' gates. -/
theorem gate_at (l : Vec Ideal S8192x64 .f32) (hl : ∀ t e, Choice.Finite (rowOf l t e)) (t : Fin 8192) :
    gate l (ix1 t) = Choice.gate (rowOf l t) := by
  unfold gate
  rw [sum_row, ← Choice.pick_prob (hl t)]
  refine Finset.sum_congr rfl fun e _ => ?_
  refine (show _ = soft l (ix2 t e) * sitofp (F := Ideal) .f32 (hot (ids l)) (ix2 t e) from rfl).trans ?_
  rw [soft_at, hot_real]

/-- Which expert token `n` goes to. -/
def routed (l : Vec Ideal S8192x64 .f32) (n : ℕ) : ℕ := if h : n < 8192 then (Choice.arg (rowOf l ⟨n, h⟩)).val else 0

theorem routed_at (l : Vec Ideal S8192x64 .f32) (t : Fin 8192) : routed l t.val = (Choice.arg (rowOf l t)).val := dif_pos t.isLt

/-- The tokens' places. -/
theorem locs_at (l : Vec Ideal S8192x64 .f32) (t : Fin 8192) :
    locs (hot (ids l)) (ix1 t) = BitVec.ofNat 32 (Walk.hits (routed l) t.val (routed l t.val)) := by
  haveI : Std.Commutative (IntOp.addi (w := 32)) := ⟨fun a b => BitVec.add_comm a b⟩
  haveI : Std.Associative (IntOp.addi (w := 32)) := ⟨fun a b c => BitVec.add_assoc a b c⟩
  have hq : routed l t.val < 64 := by rw [routed_at]; omega
  have hh : ∀ (s : Fin 8192) (e : Fin 64), hot (ids l) (ix2 s e) = BitVec.ofNat 32 (if routed l s.val = e.val then 1 else 0) := fun s e => by
    rw [hot_at, ids_toNat, routed_at]
  have hr : ∀ e : Fin 64, running (hot (ids l)) (ix2 t e) = BitVec.ofNat 32 (Walk.hits (routed l) (t.val + 1) e.val) := fun e => by
    rw [← Walk.sum_hot]
    exact cumsum_rows (R := 8192) (C := 64) rfl (hot (ids l)) (fun n e => if routed l n = e then 1 else 0) (fun s e => hh s e) _ rfl _ _ t e
  generalize routed l = ids at hq hh hr ⊢
  unfold locs
  refine (Host.reduce_eq_fold_single IntOp.addi _ _ reducesTo_S8192x64_S8192_d1 (by decide) h_S_ _).trans ?_
  refine (Walk.fold_hot _ (fun e => IntOp.subi (running (hot (Ref.ids l)) (ix2 t e)) 1#32) hq fun e => ?_).trans ?_
  · refine (congrArg (muli _ (hot (Ref.ids l))) (lift_row t _ e)).trans ?_
    exact congrArg (IntOp.muli _) (hh t e)
  · rw [hr]
    refine Eq.trans ?_ (Walk.rank_of_next (fun _ => 0) ids t.val) |>.trans ?_
    · exact congrArg (fun v => IntOp.subi v 1#32) (BitVec.zero_add _).symm
    · exact BitVec.zero_add _

/-- The balancing loss. -/
theorem loss_at (l : Vec Ideal S8192x64 .f32) :
    loss l ix0 = (∑ e : Fin 64, (∑ t : Fin 8192, Choice.prob (rowOf l t) e)
      * (∑ t : Fin 8192, ((((if Choice.arg (rowOf l t) = e then 1 else 0 : ℝ)) : EReal)))) * Ideal.ofBits .f32 0x35800000#32 := by
  unfold loss
  refine congrArg (· * Ideal.ofBits .f32 0x35800000#32) ?_
  rw [hostReduceAdd_apply, Ideal.hostReduceAdd_total _ (fun b => b.elim0)]
  refine (congrArg (· + _) (show constant (F := Ideal) S_ .f32 0x00000000#32 (Shape.Idx.first h_S_) = 0 from Ideal.ofBits_zero_f32)).trans ((zero_add _).trans ?_)
  rw [← Equiv.sum_comp (idxEquiv1 (n := 64)).symm]
  have hp := fun e => (sum_col (soft l) e).trans (Finset.sum_congr rfl fun t _ => soft_at l t e)
  have hc := fun e => (sum_col (sitofp (F := Ideal) .f32 (hot (ids l))) e).trans (Finset.sum_congr rfl fun t (_ : t ∈ Finset.univ) => hot_real l t e)
  generalize Host.reduceAdd (F := Ideal) (φ := .f32) (soft l) _ _ _ = p at hp ⊢
  generalize Host.reduceAdd (F := Ideal) (φ := .f32) (sitofp .f32 (hot (ids l))) _ _ _ = c at hc ⊢
  exact Finset.sum_congr rfl fun e _ => congrArg₂ (fun a b : EReal => a * b) (hp e) (hc e)

end Cert.Proof.Ref

end
-- ==== Proof.KerClaims.lean ====
/-
  The claims about the whole kernel and the plain reference: both run, and their six results are equal.
-/
module

public import proofs.«01_k».proof.Defs
public import proofs.«01_k».proof.Proof.Finite
public import proofs.«01_k».proof.Proof.KerWindows
public import proofs.«01_k».proof.Proof.RefValue

@[expose] public section

noncomputable section

namespace Cert.Proof.Ker

open Idealize.ShloMosaic Idealize.SL.Sem Idealize.ShloMosaic.ValueIdx
open Cert.KernelIdeal (nD τ sig S8192 S8192x1 S1x1 S_ main_arg0 main_arg1 main_c main_c_0 main_v4 main_v5 main_v6)
open Cert.KernelIdeal.Facts₀ (shapeCasts_S8192x1_S8192 shapeCasts_S1x1_S_)
open Cert.Proof

variable (m : (ℓ : Loc nD τ sig) → Buf (Elt Ideal) ℓ)

/-! ## The two programs' results -/

section

variable (d : Dev nD)

/-- The reference's logits of the kernel's arguments. -/
abbrev table : Vec Ideal Cert.ReferenceIdeal.S8192x64 .f32 := Ref.lg (tokens m d) (weights m d)

theorem row_table (t : Fin 8192) : Ref.rowOf (table m d) t = Choice.row (tokens m d) (weights m d) t := Ref.lg_at _ _ t

theorem routed_table : Ref.routed (table m d) = routed m d := by
  funext n
  unfold Ref.routed routed
  simp only [row_table]

theorem same_ids : Ref.ids (table m d) = (fi m d : S8192.Idx → BitVec 32) := by
  funext i
  obtain ⟨t, rfl⟩ : ∃ t : Fin 8192, i = ix1 t := ⟨i 0, eq_ix1 (n := 8192) i⟩
  rw [fi_at]
  refine (Ref.ids_at _ t).trans ?_
  rw [← routed_table, Ref.routed_at]

theorem same_gate (hx : ∀ i, Choice.Finite (tokens m d i)) (hw : ∀ i, Choice.Finite (weights m d i)) :
    Ref.gate (table m d) = shapeCast S8192 (show Vec Ideal S8192x1 .f32 from left m d 3) shapeCasts_S8192x1_S8192 := by
  funext i
  obtain ⟨t, rfl⟩ : ∃ t : Fin 8192, i = ix1 t := ⟨i 0, eq_ix1 (n := 8192) i⟩
  refine (Ref.gate_at _ (fun t e => ?_) t).trans ?_
  · rw [row_table]; exact Choice.finite_row hx hw t e
  rw [left_3, row_table]
  refine Eq.symm ((shapeCast_apply _ shapeCasts_S8192x1_S8192 (ix1 t) (ix2 t 0) ?_).trans ?_)
  swap; · rfl
  rw [Shape.rowMajor_val_two, Shape.rowMajor_val_one]
  exact (Nat.add_zero _).trans (Nat.mul_one _)

theorem same_locs : Ref.locs (Ref.hot (Ref.ids (table m d))) = (out (fi m) (fp m) d : S8192.Idx → BitVec 32) := by
  funext i
  obtain ⟨t, rfl⟩ : ∃ t : Fin 8192, i = ix1 t := ⟨i 0, eq_ix1 (n := 8192) i⟩
  rw [out_at]
  refine (Ref.locs_at _ t).trans ?_
  rw [routed_table]

theorem same_loss : Ref.loss (table m d) = shapeCast S_ (show Vec Ideal S1x1 .f32 from left m d 5) shapeCasts_S1x1_S_ := by
  funext i
  obtain rfl : i = ix0 := funext fun a => a.elim0
  refine (Ref.loss_at _).trans ?_
  rw [left_5]
  refine Eq.trans ?_ (show _ = shapeCast S_ (fun _ : S1x1.Idx => _) shapeCasts_S1x1_S_ ix0 from rfl)
  refine congrArg (· * Ideal.ofBits .f32 0x35800000#32) (Finset.sum_congr rfl fun e _ => congrArg₂ (· * ·) ?_ ?_)
  · rw [Finset.sum_range]
    refine Finset.sum_congr rfl fun t _ => ?_
    rw [row_table]
    unfold share
    rw [dif_pos t.isLt]
  · rw [← amount_all]
    refine Finset.sum_congr rfl fun t _ => ?_
    rw [← routed_table, Ref.routed_at]
    unfold one
    simp only [Fin.ext_iff]

end

/-! ## The claims -/

theorem quiescent : Cert.quiescent_KernelIdeal := fun m g _ =>
  (θ_run _ _ _).mono (fun _ q => ⟨fun c => ⟨((q.1 c).2 (dv main_arg0) (by decide)).trans (end_arg0 m c _), ((q.1 c).2 (dv main_arg1) (by decide)).trans (end_arg1 m c _)⟩, q.2⟩)
    (run_main m g (inRange m))

theorem quiescent_finite : Cert.quiescent_KernelIdeal_pre_finite := fun m g _ => quiescent m g trivial

theorem reference_quiescent : Cert.quiescent_ReferenceIdeal := fun m g _ =>
  (θ_run _ _ _).mono (fun r q => ⟨fun c => (q c).2.2.2.2.2.2, Idealize.ShloMosaic.sem_eq_zero_of_no_sems (by decide) r.2⟩)
    (Ref.run (F := Ideal) m g)

theorem reference_quiescent_finite : Cert.quiescent_ReferenceIdeal_pre_finite := fun m g _ => reference_quiescent m g trivial

theorem algebraic : Cert.algebraic_KernelIdeal_ReferenceIdeal_pre_finite := by
  intro m g m' g' h hm
  have hf : ∀ c, (∀ i, Choice.Finite (tokens m c i)) ∧ ∀ i, Choice.Finite (weights m c i) := fun c => Finite.of_pre (h c)
  refine ⟨fun c => shapeCast S_ (show Vec Ideal S1x1 .f32 from left m c 5) shapeCasts_S1x1_S_, fun _ => constantI S_ 32 128#32,
    fun _ => constantI S_ 32 64#32, fun c => fi m c, fun c => out (fi m) (fp m) c,
    fun c => shapeCast S8192 (show Vec Ideal S8192x1 .f32 from left m c 3) shapeCasts_S8192x1_S8192, ?_, ?_⟩
  · exact (θ_run _ _ _).mono (fun _ q c =>
      have hb := (q.1 c).2
      ⟨(hb (dv main_v4) (by decide)).trans (end_loss m c _), (hb (dv main_c) (by decide)).trans (end_c m c _), (hb (dv main_c_0) (by decide)).trans (end_c_0 m c _),
        (hb (dv main_v5) (by decide)).trans (end_idx m c _), (q.1 c).1, (hb (dv main_v6) (by decide)).trans (end_gate m c _),
        (hb (dv main_arg0) (by decide)).trans (end_arg0 m c _), (hb (dv main_arg1) (by decide)).trans (end_arg1 m c _)⟩) (run_main m g (inRange m))
  · refine (θ_run _ _ _).mono (fun r q c => ?_) (Ref.run (F := Ideal) m' g')
    have ht : Ref.lg (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = table m c :=
      congrArg₂ Ref.lg (hm c).1 (hm c).2
    obtain ⟨h0, h1, h2, h3, h4, h5, h6⟩ := q c
    rw [ht] at h0 h3 h4 h5
    exact ⟨h0.trans (same_loss m c), h1, h2, h3.trans (same_ids m c), h4.trans (same_locs m c), h5.trans (same_gate m c (hf c).1 (hf c).2), h6⟩

end Cert.Proof.Ker

end
-- ==== Proof.lean ====
/- The proof of the certificate's claims: those about the whole kernel and its reference (Proof/KerClaims.lean),
   and those about the SparseCore call alone and its reference (Proof/LocClaims.lean). -/
module

public import proofs.«01_k».proof.Defs
public import proofs.«01_k».proof.Proof.Gen.Locations
public import proofs.«01_k».proof.Proof.Gen.LocationsReference
public import proofs.«01_k».proof.Proof.Gen.LocationsReference.Run
public import proofs.«01_k».proof.Proof.Gen.Pre_in_range
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.LocClaims
public import proofs.«01_k».proof.Proof.KerClaims

@[expose] public section

noncomputable section

namespace Cert.Proof

theorem claim : Cert.Claim :=
  ⟨Cert.KernelIdeal.Gen.facts, Cert.ReferenceIdeal.Gen.facts, Cert.Locations.Gen.facts, Cert.LocationsReference.Gen.facts,
    Cert.Pre_finite.Gen.facts, Cert.Pre_in_range.Gen.facts,
    Ker.quiescent, Ker.quiescent_finite, Ker.reference_quiescent, Ker.reference_quiescent_finite, Loc.quiescent, Loc.reference_quiescent,
    Ker.algebraic, Loc.bitexact⟩

end Cert.Proof

end
